-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x4096 : Shape := ⟨2, ![512, 4096]⟩
abbrev S2x512x4096 : Shape := ⟨3, ![2, 512, 4096]⟩
abbrev S2 : Shape := ⟨1, ![2]⟩
abbrev S_ : Shape := ⟨0, ![]⟩
abbrev S512x512 : Shape := ⟨2, ![512, 512]⟩
abbrev S1x512x4096 : Shape := ⟨3, ![1, 512, 4096]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S512x4096, .f32⟩
  | .local _ .vmem, ⟨0, _⟩ => ⟨S8192x512, .bf16⟩
  | .local _ .vmem, ⟨1, _⟩ => ⟨S512x4096, .bf16⟩
  | .local _ .vmem, ⟨2, _⟩ => ⟨S512x4096, .f32⟩
  | .local _ .vmem, ⟨3, _⟩ => ⟨S2x512x4096, .bf16⟩
  | .local _ .vmem, ⟨4, _⟩ => ⟨S2x512x4096, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 2 7 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c512_i32 : BitVec 32 := 512#32
  let v13 : BitVec 32 := Scalar.muli v5 c512_i32
  let v14 : Index := Scalar.indexCast v13
  let c0 : Index := 0#32
  ![v14.toNat, 0]
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_19 : BitVec 32 := 1#32
  let v24 : BitVec 32 := Scalar.muli v7 c1_i32_19
  let v25 : BitVec 32 := Scalar.addi c0_i32_20 v24
  v25.toNat
def k0_off2 (d0 : Dev nD) (c14_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v48 : BitVec 32 := Scalar.addi v2 c14_i32
  let c16_i32_44 : BitVec 32 := 16#32
  let v49 : BitVec 32 := Scalar.remsi v48 c16_i32_44
  let c512_i32_45 : BitVec 32 := 512#32
  let v50 : BitVec 32 := Scalar.muli v49 c512_i32_45
  let v51 : Index := Scalar.indexCast v50
  let c0_46 : Index := 0#32
  ![v51.toNat, 0]
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_56 : BitVec 32 := 1#32
  let v65 : BitVec 32 := Scalar.muli v5 c1_i32_56
  let v66 : BitVec 32 := Scalar.addi c0_i32_57 v65
  v66.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_62 : BitVec 32 := 1#32
  let v67 : BitVec 32 := Scalar.muli v7 c1_i32_62
  let v68 : BitVec 32 := Scalar.addi c0_i32_63 v67
  v68.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_100 : BitVec 32 := 1#32
  let v108 : BitVec 32 := Scalar.muli v5 c1_i32_100
  let v109 : BitVec 32 := Scalar.addi c0_i32_101 v108
  v109.toNat
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_108 : BitVec 32 := 1#32
  let v110 : BitVec 32 := Scalar.muli v7 c1_i32_108
  let v111 : BitVec 32 := Scalar.addi c0_i32_109 v110
  v111.toNat
def k0_dev8 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_146 : BitVec 32 := 1#32
  let v151 : BitVec 32 := Scalar.muli v5 c1_i32_146
  let v152 : BitVec 32 := Scalar.addi c0_i32_147 v151
  v152.toNat
def k0_dev9 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_154 : BitVec 32 := 1#32
  let v153 : BitVec 32 := Scalar.muli v7 c1_i32_154
  let v154 : BitVec 32 := Scalar.addi c0_i32_155 v153
  v154.toNat
def k0_dev10 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_192 : BitVec 32 := 1#32
  let v194 : BitVec 32 := Scalar.muli v5 c1_i32_192
  let v195 : BitVec 32 := Scalar.addi c0_i32_193 v194
  v195.toNat
def k0_dev11 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_200 : BitVec 32 := 1#32
  let v196 : BitVec 32 := Scalar.muli v7 c1_i32_200
  let v197 : BitVec 32 := Scalar.addi c0_i32_201 v196
  v197.toNat
def k0_dev12 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_238 : BitVec 32 := 1#32
  let v237 : BitVec 32 := Scalar.muli v5 c1_i32_238
  let v238 : BitVec 32 := Scalar.addi c0_i32_239 v237
  v238.toNat
def k0_dev13 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_246 : BitVec 32 := 1#32
  let v239 : BitVec 32 := Scalar.muli v7 c1_i32_246
  let v240 : BitVec 32 := Scalar.addi c0_i32_247 v239
  v240.toNat
def k0_dev14 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_284 : BitVec 32 := 1#32
  let v280 : BitVec 32 := Scalar.muli v5 c1_i32_284
  let v281 : BitVec 32 := Scalar.addi c0_i32_285 v280
  v281.toNat
def k0_dev15 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_292 : BitVec 32 := 1#32
  let v282 : BitVec 32 := Scalar.muli v7 c1_i32_292
  let v283 : BitVec 32 := Scalar.addi c0_i32_293 v282
  v283.toNat
def k0_dev16 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_330 : BitVec 32 := 1#32
  let v323 : BitVec 32 := Scalar.muli v5 c1_i32_330
  let v324 : BitVec 32 := Scalar.addi c0_i32_331 v323
  v324.toNat
def k0_dev17 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_338 : BitVec 32 := 1#32
  let v325 : BitVec 32 := Scalar.muli v7 c1_i32_338
  let v326 : BitVec 32 := Scalar.addi c0_i32_339 v325
  v326.toNat
def k0_dev18 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_376 : BitVec 32 := 1#32
  let v366 : BitVec 32 := Scalar.muli v5 c1_i32_376
  let v367 : BitVec 32 := Scalar.addi c0_i32_377 v366
  v367.toNat
def k0_dev19 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_384 : BitVec 32 := 1#32
  let v368 : BitVec 32 := Scalar.muli v7 c1_i32_384
  let v369 : BitVec 32 := Scalar.addi c0_i32_385 v368
  v369.toNat
def k0_dev20 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_422 : BitVec 32 := 1#32
  let v409 : BitVec 32 := Scalar.muli v5 c1_i32_422
  let v410 : BitVec 32 := Scalar.addi c0_i32_423 v409
  v410.toNat
def k0_dev21 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_430 : BitVec 32 := 1#32
  let v411 : BitVec 32 := Scalar.muli v7 c1_i32_430
  let v412 : BitVec 32 := Scalar.addi c0_i32_431 v411
  v412.toNat
def k0_dev22 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_468 : BitVec 32 := 1#32
  let v452 : BitVec 32 := Scalar.muli v5 c1_i32_468
  let v453 : BitVec 32 := Scalar.addi c0_i32_469 v452
  v453.toNat
def k0_dev23 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_476 : BitVec 32 := 1#32
  let v454 : BitVec 32 := Scalar.muli v7 c1_i32_476
  let v455 : BitVec 32 := Scalar.addi c0_i32_477 v454
  v455.toNat
def k0_dev24 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_514 : BitVec 32 := 1#32
  let v495 : BitVec 32 := Scalar.muli v5 c1_i32_514
  let v496 : BitVec 32 := Scalar.addi c0_i32_515 v495
  v496.toNat
def k0_dev25 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_522 : BitVec 32 := 1#32
  let v497 : BitVec 32 := Scalar.muli v7 c1_i32_522
  let v498 : BitVec 32 := Scalar.addi c0_i32_523 v497
  v498.toNat
def k0_dev26 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_560 : BitVec 32 := 1#32
  let v538 : BitVec 32 := Scalar.muli v5 c1_i32_560
  let v539 : BitVec 32 := Scalar.addi c0_i32_561 v538
  v539.toNat
def k0_dev27 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_568 : BitVec 32 := 1#32
  let v540 : BitVec 32 := Scalar.muli v7 c1_i32_568
  let v541 : BitVec 32 := Scalar.addi c0_i32_569 v540
  v541.toNat
def k0_dev28 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_607 : BitVec 32 := 1#32
  let v581 : BitVec 32 := Scalar.muli v5 c1_i32_607
  let v582 : BitVec 32 := Scalar.addi c0_i32_608 v581
  v582.toNat
def k0_dev29 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_615 : BitVec 32 := 1#32
  let v583 : BitVec 32 := Scalar.muli v7 c1_i32_615
  let v584 : BitVec 32 := Scalar.addi c0_i32_616 v583
  v584.toNat
def k0_dev30 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_659 : BitVec 32 := 1#32
  let v624 : BitVec 32 := Scalar.muli v7 c1_i32_659
  let v625 : BitVec 32 := Scalar.addi c0_i32_660 v624
  v625.toNat
abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KI.Prog.lean ====
/-
  The kernel's body read as fifteen passes of one step.

  The printed body is one long line of operations cut into parts that do not
  follow the algorithm.  Here every kind of operation gets a name with the
  buffer slot as a parameter, a step of the ring is written once, and the
  printed body is shown equal to a preamble followed by the fifteen steps.
-/
module

public import proofs.«01_k».proof.Proof.Gen.KernelIdeal.Skeleton

@[expose] public section

noncomputable section

namespace Cert.KernelIdeal.Ring

open Idealize.ShloMosaic Idealize.SL.Sem
open Cert.KernelIdeal Cert.KernelIdeal.Gen

variable {F : FTy → Type} [FloatOps F]

/-- The staged block of `x`: all rows, this device's columns. -/
abbrev xM : Memref sig .tc .vmem S8192x512 .bf16 := Memref.whole cc0_stg0_0
/-- The staged block of the weight. -/
abbrev wM : Memref sig .tc .vmem S512x4096 .bf16 := Memref.whole cc0_stg1_0
/-- The staged result. -/
abbrev oM : Memref sig .tc .vmem S512x4096 .f32 := Memref.whole cc0_stg2_0
/-- The two send slots. -/
abbrev sM : Memref sig .tc .vmem S2x512x4096 .bf16 := Memref.whole cc0_scratch0
/-- The two receive slots. -/
abbrev rM : Memref sig .tc .vmem S2x512x4096 .bf16 := Memref.whole cc0_scratch1

/-- Slot `b` lies inside a two-slot buffer. -/
theorem inbSlot (b : Fin 2) : ∀ a, (![b.val, 0, 0] : Fin 3 → ℕ) a + S1x512x4096.size a ≤ S2x512x4096.size a := by
  intro a; fin_cases b <;> fin_cases a <;> decide

/-- Slot `b` of a two-slot buffer, as a rectangle. -/
abbrev slotR (b : Fin 2) : Rect S2x512x4096 := Rect.unit (s := S2x512x4096) ![b.val, 0, 0] S1x512x4096.size (inbSlot b)

/-- Semaphore `b` lies inside a pair. -/
theorem inbSem (b : Fin 2) : ∀ a, (![b.val] : Fin 1 → ℕ) a + S1.size a ≤ S2.size a := by
  intro a; fin_cases b <;> fin_cases a <;> decide

/-- Send slot `b`, as the transfer addresses it. -/
abbrev sSlot (b : Fin 2) : Memref sig .tc .vmem S512x4096 .bf16 :=
  (sM.slice (slotR b) (fun _ => rfl)).squeeze S512x4096 squeezes_S1x512x4096_S512x4096
/-- Receive slot `b`, as the transfer addresses it. -/
abbrev rSlot (b : Fin 2) : Memref sig .tc .vmem S512x4096 .bf16 :=
  (rM.slice (slotR b) (fun _ => rfl)).squeeze S512x4096 squeezes_S1x512x4096_S512x4096

/-- The send semaphore of slot `b`. -/
abbrev sSem (b : Fin 2) : DmaSem sig :=
  ((cc0_scratch2.slice (Rect.unit (s := S2) ![b.val] S1.size (inbSem b))).squeeze S_ squeezes_S1_S_).sem
/-- The receive semaphore of slot `b`. -/
abbrev rSem (b : Fin 2) : DmaSem sig :=
  ((cc0_scratch3.slice (Rect.unit (s := S2) ![b.val] S1.size (inbSem b))).squeeze S_ squeezes_S1_S_).sem
/-- The credit semaphore. -/
abbrev crSem : Sem sig := cc0_scratch4.sem
/-- The barrier semaphore. -/
abbrev barSem : Sem sig := (SemArray.scalar (sig.barrier 0 rfl) : Sems sig S_).sem

/-- A send slot begins and ends on whole words. -/
theorem sWords (b : Fin 2) : (sSlot b).view.WordExact := by
  fin_cases b
  · exact ((Memref.isWhole_whole cc0_scratch0).wordExact_slice rfl _ wordsbf16_S2x512x4096_S1x512x4096_0_0_0).reshape _ _
  · exact ((Memref.isWhole_whole cc0_scratch0).wordExact_slice rfl _ wordsbf16_S2x512x4096_S1x512x4096_1_0_0).reshape _ _

/-- A receive slot begins and ends on whole words. -/
theorem rWords (b : Fin 2) : (rSlot b).view.WordExact := by
  fin_cases b
  · exact ((Memref.isWhole_whole cc0_scratch1).wordExact_slice rfl _ wordsbf16_S2x512x4096_S1x512x4096_0_0_0).reshape _ _
  · exact ((Memref.isWhole_whole cc0_scratch1).wordExact_slice rfl _ wordsbf16_S2x512x4096_S1x512x4096_1_0_0).reshape _ _

/-- A store of a send slot writes whole words. -/
theorem sPacked (b : Fin 2) : (sM.access (slotR b)).StoreExact Finset.univ := by
  fin_cases b
  · exact (Memref.isWhole_whole cc0_scratch0).storeExact_slice rfl _ packedbf16_S2x512x4096_S1x512x4096_0_0_0
  · exact (Memref.isWhole_whole cc0_scratch0).storeExact_slice rfl _ packedbf16_S2x512x4096_S1x512x4096_1_0_0

/-- The left neighbour on the ring. -/
abbrev prv (d : Dev nD) : Dev nD := ⟨k0_dev1 d, k0_dev1_lt d⟩
/-- The right neighbour on the ring. -/
abbrev nxt (d : Dev nD) : Dev nD := ⟨k0_dev2 d, k0_dev2_lt d⟩

/-- The kernel's program type. -/
abbrev P (F : FTy → Type) (α : Type) : Type 1 := Prog (TpuEff nD τ sig (Elt F) Λ₀ .tc) α

/-- Send slot `b` to the right neighbour's receive slot `b`. -/
def opSend (d : Dev nD) (b : Fin 2) : P F PUnit :=
  Prog.lift (.enqueueDma (sSlot b) (.remote (Dev.tc (nxt d)) (rSlot b) (.dma (sSem b))) (.dma (rSem b))
    (sWords b) (rWords b) ⟨⟨rfl, Or.inl rfl⟩, trivial⟩)

/-- Wait until the outgoing copy of slot `b` has left. -/
def opWaitS (b : Fin 2) : P F PUnit := Prog.lift (.waitDma2 (sSem b) (rSlot b) (sSlot b) (rWords b) (sWords b))

/-- Wait until a copy into receive slot `b` has landed. -/
def opWaitR (b : Fin 2) : P F PUnit := Prog.lift (.waitDma2 (rSem b) (sSlot b) (rSlot b) (sWords b) (rWords b))

/-- The rows of `x` that step `14 - r` multiplies. -/
abbrev xR (d : Dev nD) (r : Fin 15) : Rect S8192x512 :=
  Rect.unit (s := S8192x512) (k0_off2 d (BitVec.ofNat 32 r.val)) S512x512.size (k0_off2_inb d r)
/-- The rows of `x` that the preamble multiplies. -/
abbrev xR1 (d : Dev nD) : Rect S8192x512 := Rect.unit (s := S8192x512) (k0_off1 d) S512x512.size (k0_off1_inb d)
/-- All of the weight block, or of the result. -/
abbrev wR : Rect S512x4096 := Rect.unit (s := S512x4096) ![0, 0] S512x4096.size inb_S512x4096_S512x4096_0_0

/-- The load of row block `(d + r) mod 16` of the first argument. -/
def ldX (d : Dev nD) (r : Fin 15) : P F (Vec F S512x512 .bf16) :=
  Prog.lift (.load xM (xR d r).toLoadRect (View.loadsAt_vmem h_S512x512))
/-- The load of the row block of the device on the left. -/
def ldX1 (d : Dev nD) : P F (Vec F S512x512 .bf16) :=
  Prog.lift (.load xM (xR1 d).toLoadRect (View.loadsAt_vmem h_S512x512))
/-- The load of the second argument. -/
def ldW : P F (Vec F S512x4096 .bf16) := Prog.lift (.load wM wR.toLoadRect (View.loadsAt_vmem h_S512x4096))
/-- The load of receive slot `b`. -/
def ldR (b : Fin 2) : P F (Vec F S1x512x4096 .bf16) :=
  Prog.lift (.load rM (slotR b).toLoadRect (View.loadsAt_vmem h_S1x512x4096))
/-- The load of send slot `b`, which precedes a store there. -/
def ldS (b : Fin 2) : P F (Vec F S1x512x4096 .bf16) :=
  Prog.lift (.load sM (slotR b).toLoadRect (View.loadsAt_vmem h_S1x512x4096))
/-- The store of a block in send slot `b`. -/
def stS (b : Fin 2) (v : Vec F S1x512x4096 .bf16) : P F PUnit :=
  Prog.lift (.store sM (slotR b) v Finset.univ (View.stores_vmem h_S1x512x4096 (sPacked b) (fun _ => rfl)) (.inl rfl))
/-- The load of the result's buffer, which precedes the store there. -/
def ldO : P F (Vec F S512x4096 .f32) := Prog.lift (.load oM wR.toLoadRect (View.loadsAt_vmem h_S512x4096))
/-- The store of the result. -/
def stO (v : Vec F S512x4096 .f32) : P F PUnit :=
  Prog.lift (.store oM wR v Finset.univ (View.stores_vmem_bits_univ h_S512x4096 rfl) (.inl rfl))

/-- Give the left neighbour one credit. -/
def opSig (d : Dev nD) : P F PUnit := semSignalWord (prv d) crSem 1#32
/-- Wait for one credit. -/
def opCred : P F PUnit := semWaitWord crSem 1#32

/-- What a step stores for the next one to send: the partial product plus what arrived. -/
abbrev payStep (x : Vec F S512x512 .bf16) (w : Vec F S512x4096 .bf16) (r : Vec F S1x512x4096 .bf16) : Vec F S1x512x4096 .bf16 :=
  k0_pay5 x w r

/-- The common part of a step: slot `b` sent and waited for, its left twin received. -/
def xfer (d : Dev nD) (b : Fin 2) : P F PUnit := do
  opSend d b
  opWaitS b
  opWaitR b

/-- The computing part of a step. -/
def comp (d : Dev nD) (b nb : Fin 2) (r : Fin 15) : P F PUnit := do
  let x ← ldX d r
  let w ← ldW
  let v ← ldR b
  let _ ← ldS nb
  stS nb (payStep x w v)

/-- What precedes the ring: the barrier with both neighbours and the first partial product. -/
def pre : P F (Dev nD) := do
  let d ← Prog.lift .deviceId
  semSignalWord (prv d) barSem 1#32
  semSignalWord (nxt d) barSem 1#32
  semWaitWord barSem 2#32
  let x ← ldX1 d
  let w ← ldW
  let _ ← ldS 0
  stS 0 (k0_pay2 x w)
  pure d

/-- The last computing part: the sum is stored as the result. -/
def fin (d : Dev nD) : P F PUnit := do
  let x ← ldX d 0
  let w ← ldW
  let v ← ldR 0
  let _ ← ldO
  stO (k0_pay1 x w v)

/-- An early step: no credit is needed before sending. -/
def stepA (d : Dev nD) (b nb : Fin 2) (r : Fin 15) : P F PUnit := do
  xfer d b
  comp d b nb r
  opSig d

/-- A middle step: a credit before sending, a credit given after computing. -/
def stepB (d : Dev nD) (b nb : Fin 2) (r : Fin 15) : P F PUnit := do
  opCred
  xfer d b
  comp d b nb r
  opSig d

/-- The last step but one: no credit is given any more. -/
def stepC (d : Dev nD) (b nb : Fin 2) (r : Fin 15) : P F PUnit := do
  opCred
  xfer d b
  comp d b nb r

/-- The last step. -/
def stepD (d : Dev nD) (b : Fin 2) : P F PUnit := do
  opCred
  xfer d b
  fin d

/-- The whole body. -/
def ring : P F PUnit := do
  let d ← pre
  stepA d 0 1 14
  stepA d 1 0 13
  stepB d 0 1 12
  stepB d 1 0 11
  stepB d 0 1 10
  stepB d 1 0 9
  stepB d 0 1 8
  stepB d 1 0 7
  stepB d 0 1 6
  stepB d 1 0 5
  stepB d 0 1 4
  stepB d 1 0 3
  stepB d 0 1 2
  stepC d 1 0 1
  stepD d 0

/-- The printed body on the launch's buffers and semaphores. -/
abbrev body : P F PUnit :=
  cc0_body xM (Memref.isWhole_whole _) wM (Memref.isWhole_whole _) oM (Memref.isWhole_whole _) sM (Memref.isWhole_whole _)
    rM (Memref.isWhole_whole _) cc0_scratch2 cc0_scratch3 cc0_scratch4

set_option maxRecDepth 65536 in
set_option maxHeartbeats 4000000 in
/-- The printed body is the ring. -/
theorem body_eq : body (F := F) = ring := rfl

end Cert.KernelIdeal.Ring

end
-- ==== Proof.KI.Base.lean ====
/-
  The ring's vocabulary: neighbours, semaphore cells, what every buffer holds at
  every step, and the two slots of a two-slot buffer as separate assertions.
-/
module

public import proofs.«01_k».proof.Proof.KI.Prog
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the ring's rounds, and the slots handed back to their writers -/

/-- The rounds of the ring's cells, duties named by numbers. -/
abbrev UB : Type := URounds (GSem nD τ sig) ℕ
/-- The slots, named by the device that reads them and the slot's number. -/
abbrev UK : Type := Release.USlots (Dev nD × Fin 2)
/-- The whole algebra: the pipeline's rounds beside the ring's rounds and slots. -/
abbrev UU : Type := UR sig nD τ × (UB × UK)

local notation "𝕄" => MT nD τ sig ℕ (Elt F) ℕ UU ℕ

/-- The pipeline's rounds in the machine's resources. -/
abbrev EP : Emb (UR sig nD τ) (MT nD τ sig ℕ (Elt F) ℕ UU ℕ) := embL
/-- The ring's rounds and slots in the machine's resources. -/
abbrev EX : Emb (UB × UK) (MT nD τ sig ℕ (Elt F) ℕ UU ℕ) := embR
/-- The ring's rounds alone. -/
abbrev ER : Emb UB (MT nD τ sig ℕ (Elt F) ℕ UU ℕ) := (Emb.inl : Emb UB (UB × UK)).trans embR
/-- The slots alone. -/
abbrev EK : Emb UK (MT nD τ sig ℕ (Elt F) ℕ UU ℕ) := (Emb.inr : Emb UK (UB × UK)).trans embR

omit [FloatOps F] in
/-- The ring's rounds land in the part that an invariant may store. -/
instance ER_lands : (ER : Emb UB 𝕄).LandsIn (upEmb : UEmb _ 𝕄) := by unfold ER; infer_instance
omit [FloatOps F] in
/-- So do the slots. -/
instance EK_lands : (EK : Emb UK 𝕄).LandsIn (upEmb : UEmb _ 𝕄) := by unfold EK; infer_instance

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The ring -/

/-- The right neighbour's number. -/
theorem nxt_val (c : Dev nD) : (nxt c).val = (c.val + 1) % 16 := by revert c; decide
/-- The left neighbour's number. -/
theorem prv_val (c : Dev nD) : (prv c).val = (c.val + 15) % 16 := by revert c; decide
/-- The left neighbour of the right neighbour is the device itself. -/
theorem prv_nxt (c : Dev nD) : prv (nxt c) = c := by revert c; decide
/-- The right neighbour of the left neighbour is the device itself. -/
theorem nxt_prv (c : Dev nD) : nxt (prv c) = c := by revert c; decide

/-- Going right, with going left as its inverse. -/
def around : Dev nD ≃ Dev nD := ⟨nxt, prv, prv_nxt, nxt_prv⟩

/-- The slot that step `t` uses. -/
def sl (t : ℕ) : Fin 2 := if t % 2 = 0 then 0 else 1

/-- The slots alternate: two steps later it is the same slot. -/
theorem sl_two (t : ℕ) : sl (t + 2) = sl t := by unfold sl; rw [Nat.add_mod_right]
/-- Use `r` of slot `b` is at step `2 r + b`. -/
theorem sl_pair (r : ℕ) (b : Fin 2) : sl (2 * r + b.val) = b := by
  unfold sl; fin_cases b <;> simp [Nat.add_mod]
/-- A step is twice its round plus its slot. -/
theorem two_div (t : ℕ) : 2 * (t / 2) + (sl t).val = t := by
  unfold sl; split <;> simp <;> omega

/-! ## The cells -/

/-- The barrier semaphore of device `c`. -/
abbrev barCell (c : Dev nD) : GSem nD τ sig := ((c : Thread nD τ), .reg barSem)
/-- The credit semaphore of device `c`. -/
abbrev crCell (c : Dev nD) : GSem nD τ sig := ((c : Thread nD τ), .reg crSem)
/-- The send semaphore of device `c`'s slot `b`. -/
abbrev sCell (c : Dev nD) (b : Fin 2) : GSem nD τ sig := ((c : Thread nD τ), .dma (sSem b))
/-- The receive semaphore of device `c`'s slot `b`. -/
abbrev rCell (c : Dev nD) (b : Fin 2) : GSem nD τ sig := ((c : Thread nD τ), .dma (rSem b))

/-- The credit semaphore is not the barrier's. -/
theorem cr_ne_bar : (SemLoc.reg crSem : SemLoc sig) ≠ .reg barSem := by decide
/-- A send semaphore is no regular semaphore. -/
theorem s_ne_reg (b : Fin 2) (q : Sem sig) : (SemLoc.dma (sSem b) : SemLoc sig) ≠ .reg q := fun h => by cases h
/-- A receive semaphore is no regular semaphore. -/
theorem r_ne_reg (b : Fin 2) (q : Sem sig) : (SemLoc.dma (rSem b) : SemLoc sig) ≠ .reg q := fun h => by cases h
/-- A receive semaphore is no send semaphore. -/
theorem r_ne_s (b b' : Fin 2) : (SemLoc.dma (rSem b) : SemLoc sig) ≠ .dma (sSem b') := by revert b b'; decide
/-- The two slots have different send semaphores. -/
theorem s_inj {b b' : Fin 2} (h : (SemLoc.dma (sSem b) : SemLoc sig) = .dma (sSem b')) : b = b' := by revert b b'; decide
/-- The two slots have different receive semaphores. -/
theorem r_inj {b b' : Fin 2} (h : (SemLoc.dma (rSem b) : SemLoc sig) = .dma (rSem b')) : b = b' := by revert b b'; decide

/-- What one transfer of a slot credits. -/
abbrev N : ℕ := (rSlot 0).view.dmaCredit
/-- A transfer credits something. -/
theorem N_pos : 0 < N := View.dmaCredit_pos _ (by decide)
/-- Both receive slots credit the same amount. -/
theorem N_r (b : Fin 2) : (rSlot b).view.dmaCredit = N := by fin_cases b <;> rfl
/-- Both send slots credit that amount too. -/
theorem N_s (b : Fin 2) : (sSlot b).view.dmaCredit = N := by fin_cases b <;> rfl

/-! ## What the buffers hold -/

/-- The staged block of `x` on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The staged block of the weight on device `c`. -/
def wstg (c : Dev nD) : (cc0_stg1_0 : Ref sig .tc).ty.Contents (Elt F) :=
  (win0_1.blk (0 : Fin 1)).view.read (Elt F) ((s₀ m ρ).mem ((c : Thread nD τ).loc main_arg1))

/-- The rows of `x` that device `c` multiplies at step `14 - r`. -/
def xrow (c : Dev nD) (r : Fin 15) : Vec F S512x512 .bf16 := xM.view.readAt (Elt F) (xR c r).toLoadRect (xstg m ρ c)
/-- The rows of `x` that device `c` multiplies before the ring starts. -/
def xrow1 (c : Dev nD) : Vec F S512x512 .bf16 := xM.view.readAt (Elt F) (xR1 c).toLoadRect (xstg m ρ c)
/-- The weight block as loaded. -/
def wblk (c : Dev nD) : Vec F S512x4096 .bf16 := wM.view.readAt (Elt F) wR.toLoadRect (wstg m ρ c)

/-- The row number of step `s`: it counts down from fourteen. -/
def rr (s : ℕ) : Fin 15 := ⟨14 - s, by omega⟩

/-- What device `c` sends at step `s`: its own first partial product, then what arrived from the left
    one step earlier with its own partial product added. -/
def sent : ℕ → Dev nD → Vec F S1x512x4096 .bf16
  | 0, c => k0_pay2 (xrow1 m ρ c) (wblk m ρ c)
  | s + 1, c => payStep (xrow m ρ c (rr s)) (wblk m ρ c) (sent s (prv c))

/-- What device `c` stores as its result. -/
def outv (c : Dev nD) : Vec F S512x4096 .f32 := k0_pay1 (xrow m ρ c 0) (wblk m ρ c) (sent m ρ 14 (prv c))

/-! ## The two slots of a buffer -/

/-- The elements of slot `b`. -/
abbrev slotSet (b : Fin 2) : Finset S2x512x4096.Idx := (slotR b).set

omit [FloatOps F] in
/-- The elements a transfer reads from send slot `b`. -/
theorem sSlot_set (b : Fin 2) : (sSlot b).view.set = slotSet b :=
  (View.set_reshape _ _).trans (View.set_slice_whole _ _)
omit [FloatOps F] in
/-- The elements a transfer writes in receive slot `b`. -/
theorem rSlot_set (b : Fin 2) : (rSlot b).view.set = slotSet b :=
  (View.set_reshape _ _).trans (View.set_slice_whole _ _)
omit [FloatOps F] in
/-- The elements a load or store of send slot `b` touches. -/
theorem sAcc_set (b : Fin 2) : (sM.access (slotR b)).set = slotSet b := View.set_slice_whole _ _
omit [FloatOps F] in
/-- The elements a load of receive slot `b` touches. -/
theorem rAcc_set (b : Fin 2) : (rM.access (slotR b)).set = slotSet b := View.set_slice_whole _ _

/-- Send slot `b` of device `c`, at contents `f`. -/
def sAt (c : Dev nD) (b : Fin 2) (f : Buf (Elt F) (sM.view.loc (c : Thread nD τ))) : sProp 𝕄 :=
  sM.view.loc (c : Thread nD τ) ↦[slotSet b]{fullShare} f
/-- Receive slot `b` of device `c`, at contents `f`. -/
def rAt (c : Dev nD) (b : Fin 2) (f : Buf (Elt F) (rM.view.loc (c : Thread nD τ))) : sProp 𝕄 :=
  rM.view.loc (c : Thread nD τ) ↦[slotSet b]{fullShare} f

/-- Send slot `b` of device `c` reads `Y`. -/
def sHolds (c : Dev nD) (b : Fin 2) (Y : Vec F S1x512x4096 .bf16) : sProp 𝕄 :=
  iprop(∃ f, ⌜(sM.access (slotR b)).read (Elt F) f = Y⌝ ∗ sAt c b f)
/-- Receive slot `b` of device `c` reads `Y`. -/
def rHolds (c : Dev nD) (b : Fin 2) (Y : Vec F S1x512x4096 .bf16) : sProp 𝕄 :=
  iprop(∃ f, ⌜(rM.access (slotR b)).read (Elt F) f = Y⌝ ∗ rAt c b f)
/-- Receive slot `b` of device `c`, whatever it holds. -/
def rSlotAny (c : Dev nD) (b : Fin 2) : sProp 𝕄 := Release.slot (rM.view.loc (c : Thread nD τ)) (slotSet b)

omit [FloatOps F] in
/-- An invariant may store a send slot at known contents. -/
instance sAt_storable (c : Dev nD) (b : Fin 2) (f) : BI.Storable (upEmb : UEmb _ 𝕄) (sAt (F := F) c b f) := by unfold sAt; infer_instance
omit [FloatOps F] in
/-- An invariant may store a receive slot at known contents. -/
instance rAt_storable (c : Dev nD) (b : Fin 2) (f) : BI.Storable (upEmb : UEmb _ 𝕄) (rAt (F := F) c b f) := by unfold rAt; infer_instance
omit [FloatOps F] in
/-- An invariant may store a send slot that reads a known block. -/
instance sHolds_storable (c : Dev nD) (b : Fin 2) (Y) : BI.Storable (upEmb : UEmb _ 𝕄) (sHolds (F := F) c b Y) := by unfold sHolds; infer_instance
omit [FloatOps F] in
/-- An invariant may store a receive slot that reads a known block. -/
instance rHolds_storable (c : Dev nD) (b : Fin 2) (Y) : BI.Storable (upEmb : UEmb _ 𝕄) (rHolds (F := F) c b Y) := by unfold rHolds; infer_instance
omit [FloatOps F] in
/-- An invariant may store a receive slot whatever it holds. -/
instance rSlotAny_storable (c : Dev nD) (b : Fin 2) : BI.Storable (upEmb : UEmb _ 𝕄) (rSlotAny (F := F) c b) := by unfold rSlotAny; infer_instance

omit [FloatOps F] in
/-- A slot that reads something is a slot. -/
theorem rHolds_any (c : Dev nD) (b : Fin 2) (Y : Vec F S1x512x4096 .bf16) : rHolds c b Y ⊢ rSlotAny (F := F) c b := by
  unfold rHolds rSlotAny Release.slot rAt
  iintro ⟨%f, -, H⟩
  iexists f; iexact H

omit [FloatOps F] in
/-- A slot has an element. -/
theorem slotSet_nonempty (b : Fin 2) : (slotSet b).Nonempty := by
  have h : 0 < (slotSet b).card := by
    have e := View.card_set (rM.access (slotR b)); rw [rAcc_set] at e
    rw [e]; exact (by decide : 0 < S1x512x4096.numel)
  exact Finset.card_pos.mp h

omit [FloatOps F] in
/-- An element lies in slot `b` when its first coordinate is `b`. -/
theorem mem_slotSet {b : Fin 2} {i : S2x512x4096.Idx} : i ∈ slotSet b ↔ (i (0 : Fin 3)).val = b.val := by
  rw [Rect.mem_set_unit]
  constructor
  · intro h; have h0 := h (0 : Fin 3)
    change (b.val ≤ (i (0 : Fin 3)).val ∧ (i (0 : Fin 3)).val < b.val + 1) at h0
    omega
  · intro h a
    have hi := (i a).isLt
    fin_cases a
    · show b.val ≤ (i (0 : Fin 3)).val ∧ (i (0 : Fin 3)).val < b.val + 1; omega
    · exact ⟨Nat.zero_le _, by simpa using hi⟩
    · exact ⟨Nat.zero_le _, by simpa using hi⟩

omit [FloatOps F] in
/-- The two slots share no element. -/
theorem slots_disjoint : Disjoint (slotSet 0) (slotSet 1) :=
  Finset.disjoint_left.mpr fun i h0 h1 => by rw [mem_slotSet] at h0 h1; omega

omit [FloatOps F] in
/-- The two slots are the whole buffer. -/
theorem slots_union : slotSet 0 ∪ slotSet 1 = Finset.univ := by
  ext i
  simp only [Finset.mem_union, mem_slotSet, Finset.mem_univ, iff_true]
  have : (i (0 : Fin 3)).val < 2 := (i (0 : Fin 3)).isLt
  show _ = 0 ∨ _ = 1
  omega

omit [FloatOps F] in
/-- A send buffer is its two slots. -/
theorem s_split (c : Dev nD) (f : Buf (Elt F) ((c : Thread nD τ).loc cc0_scratch0)) :
    (((c : Thread nD τ).loc cc0_scratch0) ↦{fullShare} f : sProp 𝕄) ⊢ iprop(sAt c 0 f ∗ sAt c 1 f) := by
  unfold sAt
  rw [show (Finset.univ : Finset (Idx ((c : Thread nD τ).loc cc0_scratch0))) = slotSet 0 ∪ slotSet 1 from slots_union.symm]
  exact (pointsTo_union slots_disjoint).1

omit [FloatOps F] in
/-- A receive buffer is its two slots. -/
theorem r_split (c : Dev nD) (f : Buf (Elt F) ((c : Thread nD τ).loc cc0_scratch1)) :
    (((c : Thread nD τ).loc cc0_scratch1) ↦{fullShare} f : sProp 𝕄) ⊢ iprop(rSlotAny c 0 ∗ rSlotAny c 1) := by
  unfold rSlotAny Release.slot
  rw [show (Finset.univ : Finset (Idx ((c : Thread nD τ).loc cc0_scratch1))) = slotSet 0 ∪ slotSet 1 from slots_union.symm]
  iintro H
  ihave ⟨H0, H1⟩ := (pointsTo_union (q := fullShare) (f := f) slots_disjoint).1 $$ H
  isplitl [H0]
  · iexists f; iexact H0
  · iexists f; iexact H1

omit [FloatOps F] in
/-- The two send slots are the send buffer again. -/
theorem s_join (c : Dev nD) (Y Y' : Vec F S1x512x4096 .bf16) :
    iprop(sHolds c 0 Y ∗ sHolds c 1 Y') ⊢ (∃ f : Buf (Elt F) ((c : Thread nD τ).loc cc0_scratch0), ((c : Thread nD τ).loc cc0_scratch0) ↦{fullShare} f : sProp 𝕄) := by
  unfold sHolds sAt
  iintro ⟨⟨%f, -, Hf⟩, ⟨%g, -, Hg⟩⟩
  rw [show (Finset.univ : Finset (Idx ((c : Thread nD τ).loc cc0_scratch0))) = slotSet 0 ∪ slotSet 1 from slots_union.symm]
  iexists _
  iapply (pointsTo_join slots_disjoint)
  isplitl [Hf]; · iexact Hf
  iexact Hg

omit [FloatOps F] in
/-- The two receive slots are the receive buffer again. -/
theorem r_join (c : Dev nD) :
    iprop(rSlotAny c 0 ∗ rSlotAny c 1) ⊢ (∃ f : Buf (Elt F) ((c : Thread nD τ).loc cc0_scratch1), ((c : Thread nD τ).loc cc0_scratch1) ↦{fullShare} f : sProp 𝕄) := by
  unfold rSlotAny Release.slot
  iintro ⟨⟨%f, Hf⟩, ⟨%g, Hg⟩⟩
  rw [show (Finset.univ : Finset (Idx ((c : Thread nD τ).loc cc0_scratch1))) = slotSet 0 ∪ slotSet 1 from slots_union.symm]
  iexists _
  iapply (pointsTo_join slots_disjoint)
  isplitl [Hf]; · iexact Hf
  iexact Hg

omit [FloatOps F] in
/-- What a transfer lands reads as what it was sent from. -/
theorem land_read (b : Fin 2) (fd : rM.view.ty.Contents (Elt F)) (fs : sM.view.ty.Contents (Elt F)) :
    (rM.access (slotR b)).read (Elt F) ((rSlot b).view.write (Elt F) fd ((sSlot b).view.read (Elt F) fs) Finset.univ)
      = (sM.access (slotR b)).read (Elt F) fs := by
  have h := View.read_write_univ (v := (rSlot b).view) (Val := Elt F) fd ((sSlot b).view.read (Elt F) fs)
  funext x
  have hx := congrFun h ((Shape.reshapeEquiv squeezes_S1x512x4096_S512x4096.numel_eq).symm x)
  rw [View.read_apply, View.read_apply] at hx
  rw [View.read_apply, View.read_apply]
  simpa using hx

end Cert.KernelIdeal.Ring

end
-- ==== Proof.KI.Sched.lean ====
/-
  Who pays which semaphore cell, when, and with what.

  A device's barrier cell is paid once by each neighbour; the right neighbour's
  unit brings that its two receive slots may be written for the first time.
  Each send or receive cell is paid once per step that uses its slot, with the
  slot and its contents.  The credit cell has one round of thirteen units, the
  unit of step `j` bringing that the right neighbour's slots may be written for
  every step up to `j + 2`; so a device that has collected `k` units, whichever
  they are, knows what it needs for its step `k + 1`.
-/
module

public import proofs.«01_k».proof.Proof.KI.Base

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- What a writer must know to fill device `d`'s slot at step `t`: the slot was released for that write, and
    `d` has consumed the earlier arrivals there. -/
def ready (d : Dev nD) (t : ℕ) : sProp 𝕄 :=
  iprop(Release.released EK (d, sl t) (t / 2 + 1) ∗ reached ER (rCell d (sl t)) (t / 2))

/-- `ready` for the steps `2, …, k + 1`. -/
def readyUpto (d : Dev nD) (k : ℕ) : sProp 𝕄 := bigSep (Finset.range k) fun i => ready d (i + 2)

omit [FloatOps F] in
/-- Knowing that a slot is ready may be used again. -/
instance ready_persistent (d : Dev nD) (t : ℕ) : BI.Persistent (ready (F := F) d t) := by unfold ready; infer_instance
omit [FloatOps F] in
/-- An invariant may store it. -/
instance ready_storable (d : Dev nD) (t : ℕ) : BI.Storable (upEmb : UEmb _ 𝕄) (ready (F := F) d t) := by unfold ready; infer_instance
omit [FloatOps F] in
/-- The same of several slots: it may be used again. -/
instance readyUpto_persistent (d : Dev nD) (k : ℕ) : BI.Persistent (readyUpto (F := F) d k) := by unfold readyUpto; infer_instance
omit [FloatOps F] in
/-- The same of several slots: an invariant may store it. -/
instance readyUpto_storable (d : Dev nD) (k : ℕ) : BI.Storable (upEmb : UEmb _ 𝕄) (readyUpto (F := F) d k) := by unfold readyUpto; infer_instance

omit [FloatOps F] in
/-- Ready for several steps is ready for each of them. -/
theorem readyUpto_elim (d : Dev nD) {k t : ℕ} (h : t < k) : readyUpto (F := F) d k ⊢ ready d (t + 2) := by
  unfold readyUpto; exact bigSep_elim (Φ := fun i => ready (F := F) d (i + 2)) (Finset.mem_range.mpr h)
omit [FloatOps F] in
/-- Ready for no step holds always. -/
theorem readyUpto_zero (d : Dev nD) : (emp : sProp 𝕄) ⊢ readyUpto d 0 := by
  unfold readyUpto; rw [Finset.range_zero, bigSep_empty]; exact BI.Entails.refl _
omit [FloatOps F] in
/-- Ready for one more step. -/
theorem readyUpto_succ (d : Dev nD) (k : ℕ) : iprop(ready d (k + 2) ∗ readyUpto d k) ⊢ readyUpto (F := F) d (k + 1) := by
  unfold readyUpto; rw [Finset.range_add_one, bigSep_insert Finset.notMem_range_self]; exact BI.Entails.refl _

/-- How many transfers slot `b` carries: eight through slot 0, seven through slot 1. -/
def uses (b : Fin 2) : ℕ := 8 - b.val

/-- The duties of a semaphore in a round. -/
def dutiesOf (sm : SemLoc sig) (r : ℕ) : Finset ℕ :=
  if sm = .reg barSem then (if r = 0 then {0, 1} else ∅)
  else if sm = .reg crSem then (if r = 0 then Finset.range 13 else ∅)
  else if sm = .dma (sSem 0) ∨ sm = .dma (rSem 0) then (if r < uses 0 then {0} else ∅)
  else if sm = .dma (sSem 1) ∨ sm = .dma (rSem 1) then (if r < uses 1 then {0} else ∅)
  else ∅

/-- The payload of duty `k` of round `r` of device `c`'s semaphore. -/
def payOf (c : Dev nD) (sm : SemLoc sig) (r k : ℕ) : sProp 𝕄 :=
  if sm = .reg barSem then (if k = 1 then iprop(ready (nxt c) 0 ∗ ready (nxt c) 1) else iprop(emp))
  else if sm = .reg crSem then readyUpto (nxt c) (k + 1)
  else if sm = .dma (sSem 0) then sHolds c 0 (sent m ρ (2 * r) c)
  else if sm = .dma (sSem 1) then sHolds c 1 (sent m ρ (2 * r + 1) c)
  else if sm = .dma (rSem 0) then rHolds c 0 (sent m ρ (2 * r) (prv c))
  else if sm = .dma (rSem 1) then rHolds c 1 (sent m ρ (2 * r + 1) (prv c))
  else iprop(emp)

/-- The schedule of the ring. -/
def Rd : Rounds.Schedule (GSem nD τ sig) ℕ 𝕄 where
  duties g r := if g.1.2 = .tc then dutiesOf g.2 r else ∅
  unitless _ := False
  amount g _ _ := match g.2 with | .reg _ => 1 | .dma _ => N
  payload g r k := payOf m ρ g.1.1 g.2 r k
  amount_pos g _ _ _ := by
    split
    · exact Nat.one_pos
    · exact N_pos

/-- An invariant may store any payload of the schedule. -/
instance Rd_payload_storable (g : GSem nD τ sig) (r k : ℕ) : BI.Storable (upEmb : UEmb _ 𝕄) ((Rd (F := F) m ρ).payload g r k) := by
  show BI.Storable upEmb (payOf m ρ g.1.1 g.2 r k)
  unfold payOf
  (repeat' split) <;> infer_instance

section Table
variable (c : Dev nD) (b : Fin 2)

/-- The barrier has one round, of two duties. -/
theorem duties_bar (r : ℕ) : (Rd (F := F) m ρ).duties (barCell c) r = if r = 0 then {0, 1} else ∅ := by
  show (if (Proc.tc : Proc τ) = .tc then dutiesOf (.reg barSem) r else ∅) = _
  rw [if_pos rfl]; unfold dutiesOf; rw [if_pos rfl]
/-- The credit semaphore has one round, of thirteen duties. -/
theorem duties_cr (r : ℕ) : (Rd (F := F) m ρ).duties (crCell c) r = if r = 0 then Finset.range 13 else ∅ := by
  show (if (Proc.tc : Proc τ) = .tc then dutiesOf (.reg crSem) r else ∅) = _
  rw [if_pos rfl]; unfold dutiesOf; rw [if_neg cr_ne_bar, if_pos rfl]
/-- A send semaphore has one duty in each of its slot's rounds. -/
theorem duties_s (r : ℕ) : (Rd (F := F) m ρ).duties (sCell c b) r = if r < uses b then {0} else ∅ := by
  show (if (Proc.tc : Proc τ) = .tc then dutiesOf (.dma (sSem b)) r else ∅) = _
  rw [if_pos rfl]; unfold dutiesOf; rw [if_neg (s_ne_reg b _), if_neg (s_ne_reg b _)]
  revert b; intro b; fin_cases b
  · exact if_pos (.inl rfl)
  · exact (if_neg (by decide)).trans (if_pos (.inl rfl))
/-- A receive semaphore has one duty in each of its slot's rounds. -/
theorem duties_r (r : ℕ) : (Rd (F := F) m ρ).duties (rCell c b) r = if r < uses b then {0} else ∅ := by
  show (if (Proc.tc : Proc τ) = .tc then dutiesOf (.dma (rSem b)) r else ∅) = _
  rw [if_pos rfl]; unfold dutiesOf; rw [if_neg (r_ne_reg b _), if_neg (r_ne_reg b _)]
  fin_cases b
  · exact if_pos (.inr rfl)
  · exact (if_neg (by decide)).trans (if_pos (.inr rfl))

/-- A barrier duty is one unit. -/
theorem amount_bar (r k : ℕ) : (Rd (F := F) m ρ).amount (barCell c) r k = 1 := rfl
/-- A credit is one unit. -/
theorem amount_cr (r k : ℕ) : (Rd (F := F) m ρ).amount (crCell c) r k = 1 := rfl
/-- A send's duty is one transfer's credit. -/
theorem amount_s (r k : ℕ) : (Rd (F := F) m ρ).amount (sCell c b) r k = N := rfl
/-- An arrival's duty is one transfer's credit. -/
theorem amount_r (r k : ℕ) : (Rd (F := F) m ρ).amount (rCell c b) r k = N := rfl

/-- The barrier unit from the left neighbour carries nothing. -/
theorem pay_bar0 : (Rd (F := F) m ρ).payload (barCell c) 0 0 = iprop(emp) := by
  show payOf m ρ c (.reg barSem) 0 0 = _
  unfold payOf; rw [if_pos rfl]; exact if_neg (by decide)
/-- The barrier unit from the right neighbour carries its two receive slots, ready for the first two steps. -/
theorem pay_bar1 : (Rd (F := F) m ρ).payload (barCell c) 0 1 = iprop(ready (nxt c) 0 ∗ ready (nxt c) 1) := by
  show payOf m ρ c (.reg barSem) 0 1 = _
  unfold payOf; rw [if_pos rfl, if_pos rfl]
/-- Credit `k` from the right neighbour carries its slots, ready for the steps up to `k + 2`. -/
theorem pay_cr (k : ℕ) : (Rd (F := F) m ρ).payload (crCell c) 0 k = readyUpto (nxt c) (k + 1) := by
  show payOf m ρ c (.reg crSem) 0 k = _
  unfold payOf; rw [if_neg cr_ne_bar, if_pos rfl]
/-- The send semaphore gives the send slot back, with what was sent. -/
theorem pay_s (r k : ℕ) : (Rd (F := F) m ρ).payload (sCell c b) r k = sHolds c b (sent m ρ (2 * r + b.val) c) := by
  show payOf m ρ c (.dma (sSem b)) r k = _
  unfold payOf; rw [if_neg (s_ne_reg b _), if_neg (s_ne_reg b _)]
  fin_cases b
  · exact if_pos rfl
  · exact (if_neg (by decide)).trans (if_pos rfl)
/-- The receive semaphore gives the receive slot with what the left neighbour sent. -/
theorem pay_r (r k : ℕ) : (Rd (F := F) m ρ).payload (rCell c b) r k = rHolds c b (sent m ρ (2 * r + b.val) (prv c)) := by
  show payOf m ρ c (.dma (rSem b)) r k = _
  unfold payOf; rw [if_neg (r_ne_reg b _), if_neg (r_ne_reg b _), if_neg (r_ne_s b 0), if_neg (r_ne_s b 1)]
  fin_cases b
  · exact if_pos rfl
  · exact (if_neg (by decide)).trans (if_pos rfl)

/-- At step `t`, on the slot it uses. -/
theorem pay_s_at (t k : ℕ) : (Rd (F := F) m ρ).payload (sCell c (sl t)) (t / 2) k = sHolds c (sl t) (sent m ρ t c) := by
  rw [pay_s, two_div]
/-- The same, by the step's number. -/
theorem pay_r_at (t k : ℕ) : (Rd (F := F) m ρ).payload (rCell c (sl t)) (t / 2) k = rHolds c (sl t) (sent m ρ t (prv c)) := by
  rw [pay_r, two_div]

/-- Every step's round is one of its slot's rounds. -/
theorem uses_at {t : ℕ} (h : t < 15) : t / 2 < uses (sl t) := by
  unfold uses sl; split
  · show t / 2 < 8; omega
  · show t / 2 < 7; omega

/-- The one duty of step `t`'s send. -/
theorem duties_s_at {t : ℕ} (h : t < 15) : (Rd (F := F) m ρ).duties (sCell c (sl t)) (t / 2) = {0} := by
  rw [duties_s, if_pos (uses_at h)]
/-- The one duty of step `t`'s arrival. -/
theorem duties_r_at {t : ℕ} (h : t < 15) : (Rd (F := F) m ρ).duties (rCell c (sl t)) (t / 2) = {0} := by
  rw [duties_r, if_pos (uses_at h)]

/-- The barrier's round is two units. -/
theorem expect_bar : (Rd (F := F) m ρ).expect (barCell c) 0 = 2 := by
  unfold Schedule.expect Schedule.amountOf
  rw [duties_bar, if_pos rfl, Finset.sum_congr rfl fun d _ => amount_bar m ρ c 0 d]; rfl
/-- The credits' round is thirteen units. -/
theorem expect_cr : (Rd (F := F) m ρ).expect (crCell c) 0 = 13 := by
  unfold Schedule.expect Schedule.amountOf
  rw [duties_cr, if_pos rfl, Finset.sum_congr rfl fun d _ => amount_cr m ρ c 0 d]; rfl
/-- A send's round is one transfer's credit. -/
theorem expect_s_at {t : ℕ} (h : t < 15) : (Rd (F := F) m ρ).expect (sCell c (sl t)) (t / 2) = N := by
  unfold Schedule.expect Schedule.amountOf; rw [duties_s_at m ρ c h, Finset.sum_singleton, amount_s]
/-- An arrival's round is one transfer's credit. -/
theorem expect_r_at {t : ℕ} (h : t < 15) : (Rd (F := F) m ρ).expect (rCell c (sl t)) (t / 2) = N := by
  unfold Schedule.expect Schedule.amountOf; rw [duties_r_at m ρ c h, Finset.sum_singleton, amount_r]

/-- The barrier has no later round. -/
theorem bar_later : ∀ r, 1 ≤ r → (Rd (F := F) m ρ).duties (barCell c) r = ∅ := fun r h => by rw [duties_bar, if_neg (by omega)]
/-- The credit semaphore has no later round. -/
theorem cr_later : ∀ r, 1 ≤ r → (Rd (F := F) m ρ).duties (crCell c) r = ∅ := fun r h => by rw [duties_cr, if_neg (by omega)]
/-- A send semaphore has no round after its slot's last use. -/
theorem s_later : ∀ r, uses b ≤ r → (Rd (F := F) m ρ).duties (sCell c b) r = ∅ := fun r h => by rw [duties_s, if_neg (by omega)]
/-- A receive semaphore has no round after its slot's last use. -/
theorem r_later : ∀ r, uses b ≤ r → (Rd (F := F) m ρ).duties (rCell c b) r = ∅ := fun r h => by rw [duties_r, if_neg (by omega)]

/-- The barrier's round, nothing taken yet. -/
theorem rest_bar : bigSep ((Rd (F := F) m ρ).duties (barCell c) 0 \ ∅) (fun k => (Rd (F := F) m ρ).payload (barCell c) 0 k)
    = iprop(emp ∗ (ready (nxt c) 0 ∗ ready (nxt c) 1)) := by
  rw [Finset.sdiff_empty, duties_bar, if_pos rfl, bigSep_insert (by decide), bigSep_singleton, pay_bar0, pay_bar1]; rfl
/-- What step `t`'s send gives back. -/
theorem rest_s {t : ℕ} (h : t < 15) : bigSep ((Rd (F := F) m ρ).duties (sCell c (sl t)) (t / 2) \ ∅) (fun k => (Rd (F := F) m ρ).payload (sCell c (sl t)) (t / 2) k)
    = sHolds c (sl t) (sent m ρ t c) := by
  rw [Finset.sdiff_empty, duties_s_at m ρ c h, bigSep_singleton, pay_s_at]
/-- What step `t`'s arrival brings. -/
theorem rest_r {t : ℕ} (h : t < 15) : bigSep ((Rd (F := F) m ρ).duties (rCell c (sl t)) (t / 2) \ ∅) (fun k => (Rd (F := F) m ρ).payload (rCell c (sl t)) (t / 2) k)
    = rHolds c (sl t) (sent m ρ t (prv c)) := by
  rw [Finset.sdiff_empty, duties_r_at m ρ c h, bigSep_singleton, pay_r_at]

/-- Some duty of the credit cell among `k + 1` of them is the `k`-th or later. -/
theorem exists_late {S : Finset ℕ} {k : ℕ} (h : k + 1 ≤ S.card) : ∃ j ∈ S, k ≤ j := by
  by_contra hn
  have hs : S ⊆ Finset.range k := fun j hj => Finset.mem_range.mpr (by
    by_contra hk; exact hn ⟨j, hj, by omega⟩)
  have := Finset.card_le_card hs
  rw [Finset.card_range] at this; omega

end Table

/-! ## What a device owes, and the levels -/

/-- What the send of step `i` owes. -/
abbrev dueR (c : Dev nD) (i : ℕ) : CellTallies nD τ sig ℕ := tallyAt (rCell (nxt c) (sl i)) i N
/-- What the credit of step `i` owes. -/
abbrev dueC (c : Dev nD) (i : ℕ) : CellTallies nD τ sig ℕ := tallyAt (crCell (prv c)) i 1
/-- The credit of step `i`, if that step gives one. -/
def dueC' (c : Dev nD) (i : ℕ) : CellTallies nD τ sig ℕ := if i < 13 then dueC c i else 0

/-- What device `c` still owes before step `s`. -/
def Os (c : Dev nD) (s : ℕ) : CellTallies nD τ sig ℕ := ∑ i ∈ Finset.Ico s 15, (dueC' c i + dueR c i)

/-- The debts before a step are those after it, the step's credit and the step's transfer. -/
theorem Os_step (c : Dev nD) {s : ℕ} (h : s < 15) : Os c s = (Os c (s + 1) + dueC' c s) + dueR c s := by
  unfold Os
  rw [show Finset.Ico s 15 = insert s (Finset.Ico (s + 1) 15) from by ext i; simp only [Finset.mem_Ico, Finset.mem_insert]; omega,
    Finset.sum_insert (fun h => by have := (Finset.mem_Ico.mp h).1; omega), add_comm, add_assoc]
/-- After the last step nothing is owed. -/
theorem Os_end (c : Dev nD) : Os c 15 = 0 := by unfold Os; rw [Finset.Ico_self, Finset.sum_empty]

/-- What device `c` owes at launch, the two barrier units in the order it gives them. -/
def O₀ (c : Dev nD) : CellTallies nD τ sig ℕ := (Os c 0 + tallyAt (barCell (nxt c)) 0 1) + tallyAt (barCell (prv c)) 0 1

/-- The indices tokens are named by: step numbers. -/
def L (g : GSem nD τ sig) : Finset ℕ := if g.1.2 = .tc then Finset.range 15 else ∅

/-- Levels: barrier below everything on the ring, then by steps, an arrival just below the credit of its step. -/
def lv (g : GSem nD τ sig) (i : ℕ) : ℕ :=
  if g.2 = .reg barSem then 1
  else if g.2 = .reg crSem then 2 * i + 3
  else if g.2 = .dma (rSem 0) ∨ g.2 = .dma (rSem 1) then 2 * i + 2 else 0

/-- No token is named on another core. -/
theorem L_of_ne (g : GSem nD τ sig) (h : g.1.2 ≠ .tc) : L g = ∅ := if_neg h
/-- Every step's number is one of the names. -/
theorem L_tc (c : Dev nD) (sm : SemLoc sig) {i : ℕ} (h : i < 15) : i ∈ L ((c : Thread nD τ), sm) := by
  unfold L; rw [if_pos rfl]; exact Finset.mem_range.mpr h

/-- The barrier's level. -/
theorem lv_bar (c : Dev nD) (i : ℕ) : lv (barCell c) i = 1 := if_pos rfl
/-- A credit's level. -/
theorem lv_cr (c : Dev nD) (i : ℕ) : lv (crCell c) i = 2 * i + 3 := (if_neg cr_ne_bar).trans (if_pos rfl)
/-- An arrival's level. -/
theorem lv_r (c : Dev nD) (b : Fin 2) (i : ℕ) : lv (rCell c b) i = 2 * i + 2 :=
  (if_neg (r_ne_reg b _)).trans ((if_neg (r_ne_reg b _)).trans (if_pos (by fin_cases b; exacts [.inl rfl, .inr rfl])))
/-- A send's level. -/
theorem lv_s (c : Dev nD) (b : Fin 2) (i : ℕ) : lv (sCell c b) i = 0 :=
  (if_neg (s_ne_reg b _)).trans ((if_neg (s_ne_reg b _)).trans
    (if_neg (fun h => h.elim (fun h => r_ne_s 0 b h.symm) (fun h => r_ne_s 1 b h.symm))))

/-- Something owed in a sum is owed in one of its parts. -/
theorem pos_add {A B : CellTallies nD τ sig ℕ} {g : GSem nD τ sig} {i : ℕ} (h : 0 < (A + B) g i) : 0 < A g i ∨ 0 < B g i := by
  rw [Pi.add_apply, Finsupp.add_apply] at h; omega
/-- What a single debt owes. -/
theorem pos_tally {g' g : GSem nD τ sig} {i' i n : ℕ} (h : 0 < (tallyAt g' i' n : CellTallies nD τ sig ℕ) g i) : g = g' ∧ i = i' := by
  rw [tallyAt_apply] at h
  by_contra hn
  rw [if_neg hn] at h; exact Nat.lt_irrefl 0 h

/-- What the credit of a step owes, and to whom. -/
theorem pos_dueC {c : Dev nD} {s : ℕ} {g : GSem nD τ sig} {i : ℕ} (h : 0 < dueC' c s g i) : s < 13 ∧ g = crCell (prv c) ∧ i = s := by
  unfold dueC' at h; split at h
  · exact ⟨‹_›, pos_tally h⟩
  · exact absurd h (Nat.lt_irrefl 0)

/-- What is still owed before step `s` is an arrival or a credit of step `s` or later. -/
theorem pos_Os {c : Dev nD} {s : ℕ} {g : GSem nD τ sig} {i : ℕ} (h : 0 < Os c s g i) :
    s ≤ i ∧ i < 15 ∧ ((∃ b, g = rCell (nxt c) b) ∨ g = crCell (prv c)) := by
  by_cases hs : s < 15
  · rw [Os_step c hs] at h
    rcases pos_add h with h | h
    · rcases pos_add h with h | h
      · obtain ⟨h1, h2, h3⟩ := pos_Os h; exact ⟨by omega, h2, h3⟩
      · obtain ⟨h1, h2, h3⟩ := pos_dueC h; exact ⟨by omega, by omega, .inr h2⟩
    · obtain ⟨h1, h2⟩ := pos_tally h; exact ⟨by omega, by omega, .inl ⟨_, h1⟩⟩
  · unfold Os at h; rw [Finset.Ico_eq_empty (by omega), Finset.sum_empty] at h; exact absurd h (Nat.lt_irrefl 0)
termination_by 15 - s

/-- After the send of step `s` and before its credit. -/
theorem pos_Om {c : Dev nD} {s : ℕ} {g : GSem nD τ sig} {i : ℕ} (h : 0 < (Os c (s + 1) + dueC' c s) g i) :
    s ≤ i ∧ i < 15 ∧ ((s + 1 ≤ i ∧ ∃ b, g = rCell (nxt c) b) ∨ g = crCell (prv c)) := by
  rcases pos_add h with h | h
  · obtain ⟨h1, h2, h3⟩ := pos_Os h; exact ⟨by omega, h2, h3.imp (fun h => ⟨h1, h⟩) id⟩
  · obtain ⟨h1, h2, h3⟩ := pos_dueC h; exact ⟨by omega, by omega, .inr h2⟩

/-- What a device owes at launch, and to whom. -/
theorem pos_O₀ {c : Dev nD} {g : GSem nD τ sig} {i : ℕ} (h : 0 < O₀ c g i) :
    i < 15 ∧ ((∃ b, g = rCell (nxt c) b) ∨ g = crCell (prv c) ∨ ∃ d, g = barCell d) := by
  unfold O₀ at h
  rcases pos_add h with h | h
  · rcases pos_add h with h | h
    · obtain ⟨-, h2, h3⟩ := pos_Os h; exact ⟨h2, h3.imp id .inl⟩
    · obtain ⟨h1, h2⟩ := pos_tally h; exact ⟨by omega, .inr (.inr ⟨_, h1⟩)⟩
  · obtain ⟨h1, h2⟩ := pos_tally h; exact ⟨by omega, .inr (.inr ⟨_, h1⟩)⟩

omit [FloatOps F] in
/-- One wait, below all that is owed. -/
theorem may (c : Dev nD) (sm : SemLoc sig) (i : ℕ) (O : CellTallies nD τ sig ℕ) (n : ℕ) (hi : i < 15) (hn : lv ((c : Thread nD τ), sm) i ≤ n)
    (hO : ∀ g j, 0 < O g j → j ∈ L g ∧ n < lv g j) : (levAts L lv : sProp 𝕄) ⊢ MayWait (c : Thread nD τ) sm i O :=
  MayOwe.of_cut (L := L) (lev := lv) n (fun p hp => by rw [Finset.mem_singleton.mp hp]; exact L_tc c sm hi)
    (fun g u hg => (hO g u hg).1)
    (fun p hp => by rw [Finset.mem_singleton.mp hp]; exact hn)
    (fun g u hg => (hO g u hg).2)

omit [FloatOps F] in
/-- The barrier's wait is allowed: everything owed then lies above it. -/
theorem may_bar (c : Dev nD) : (levAts L lv : sProp 𝕄) ⊢ MayWait (c : Thread nD τ) (.reg barSem) 0 (Os c 0) :=
  may c _ 0 _ 1 (by omega) (le_of_eq (lv_bar c 0)) fun g j h => by
    obtain ⟨-, hj, (⟨b, rfl⟩ | rfl)⟩ := pos_Os h
    · exact ⟨L_tc _ _ hj, by rw [lv_r]; omega⟩
    · exact ⟨L_tc _ _ hj, by rw [lv_cr]; omega⟩

omit [FloatOps F] in
/-- A wait for a credit is allowed. -/
theorem may_cr (c : Dev nD) (t : ℕ) (ht : t < 13) : (levAts L lv : sProp 𝕄) ⊢ MayWait (c : Thread nD τ) (.reg crSem) t (Os c (t + 2)) :=
  may c _ t _ (2 * t + 3) (by omega) (le_of_eq (lv_cr c t)) fun g j h => by
    obtain ⟨h1, hj, (⟨b, rfl⟩ | rfl)⟩ := pos_Os h
    · exact ⟨L_tc _ _ hj, by rw [lv_r]; omega⟩
    · exact ⟨L_tc _ _ hj, by rw [lv_cr]; omega⟩

omit [FloatOps F] in
/-- A wait for a send is allowed. -/
theorem may_s (c : Dev nD) (b : Fin 2) (s : ℕ) (hs : s < 15) : (levAts L lv : sProp 𝕄) ⊢ MayWait (c : Thread nD τ) (.dma (sSem b)) s (Os c (s + 1) + dueC' c s) :=
  may c _ s _ 0 hs (le_of_eq (lv_s c b s)) fun g j h => by
    obtain ⟨h1, hj, (⟨h2, b, rfl⟩ | rfl)⟩ := pos_Om h
    · exact ⟨L_tc _ _ hj, by rw [lv_r]; omega⟩
    · exact ⟨L_tc _ _ hj, by rw [lv_cr]; omega⟩

omit [FloatOps F] in
/-- A wait for an arrival is allowed. -/
theorem may_r (c : Dev nD) (b : Fin 2) (s : ℕ) (hs : s < 15) : (levAts L lv : sProp 𝕄) ⊢ MayWait (c : Thread nD τ) (.dma (rSem b)) s (Os c (s + 1) + dueC' c s) :=
  may c _ s _ (2 * s + 2) hs (le_of_eq (lv_r c b s)) fun g j h => by
    obtain ⟨h1, hj, (⟨h2, b, rfl⟩ | rfl)⟩ := pos_Om h
    · exact ⟨L_tc _ _ hj, by rw [lv_r]; omega⟩
    · exact ⟨L_tc _ _ hj, by rw [lv_cr]; omega⟩

omit [FloatOps F] in
/-- The staging waits are below everything. -/
theorem may_stage (c : Dev nD) (q : DmaSem sig) (h0 : SemLoc.dma q ≠ .dma (rSem 0)) (h1 : SemLoc.dma q ≠ .dma (rSem 1))
    (O : CellTallies nD τ sig ℕ) (hO : O = O₀ c ∨ O = 0) : (levAts L lv : sProp 𝕄) ⊢ MayWait (c : Thread nD τ) (.dma q) 0 O := by
  rcases hO with rfl | rfl
  · refine may c _ 0 _ 0 (by omega) (le_of_eq ((if_neg (fun h => by cases h)).trans ((if_neg (fun h => by cases h)).trans
      (if_neg (fun h => h.elim h0 h1))))) fun g j h => ?_
    obtain ⟨hj, (⟨b, rfl⟩ | rfl | ⟨d, rfl⟩)⟩ := pos_O₀ h
    · exact ⟨L_tc _ _ hj, by rw [lv_r]; omega⟩
    · exact ⟨L_tc _ _ hj, by rw [lv_cr]; omega⟩
    · exact ⟨L_tc _ _ hj, by rw [lv_bar]; omega⟩
  · rw [MayWait_zero]; iintro -; iempintro

end Cert.KernelIdeal.Ring

end
-- ==== Proof.KI.Step.lean ====
/-
  One step of the ring at a time.

  Everything a device holds before step `s` is `St c s`.  A step is the credit
  wait (from step 2 on), the transfer with its two waits, the partial product
  added to what arrived, and the credit given back; each part has one lemma,
  and a step's lemma takes `St c s` to `St c (s + 1)`.
-/
module

public import proofs.«01_k».proof.Proof.KI.Sched

@[expose] public section

set_option maxRecDepth 10000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- No loop needs a variant. -/
abbrev 𝒱₀ : Variants := Variants.none

/-- A part of the body run on device `c`. -/
abbrev run (c : Dev nD) {α : Type} (p : P F α) (Q : α → sProp 𝕄) : sProp 𝕄 :=
  wp frame (wpE (defs₀ (F := F)) 𝒱₀ (c : Thread nD τ) none) Set.univ p Q

/-! ## What every device knows -/

/-- The six semaphores of the ring on each device. -/
def csem (i : Fin 6) : SemLoc sig :=
  match i with
  | 0 => .reg barSem
  | 1 => .dma (sSem 0)
  | 2 => .dma (sSem 1)
  | 3 => .dma (rSem 0)
  | 4 => .dma (rSem 1)
  | 5 => .reg crSem

/-- Semaphore number `x.2` of device `x.1`. -/
abbrev kcell (x : Dev nD × Fin 6) : GSem nD τ sig := ((x.1 : Thread nD τ), csem x.2)

/-- The number of send cell `b`. -/
def iS (b : Fin 2) : Fin 6 := if b = 0 then 1 else 2
/-- The number of receive cell `b`. -/
def iR (b : Fin 2) : Fin 6 := if b = 0 then 3 else 4
/-- The send cell has that number. -/
theorem kcell_s (c : Dev nD) (b : Fin 2) : kcell (c, iS b) = sCell c b := by fin_cases b <;> rfl
/-- The receive cell has that number. -/
theorem kcell_r (c : Dev nD) (b : Fin 2) : kcell (c, iR b) = rCell c b := by fin_cases b <;> rfl

variable (K : Dev nD × Fin 6 → ℕ) (κ : Dev nD × Fin 2 → ℕ)

/-- Every cell's rounds, every slot's record, and the levels. -/
def shared : sProp 𝕄 :=
  iprop(bigSep Finset.univ (fun x : Dev nD × Fin 6 => iprop(cellInv ER (Rd m ρ) (K x) (kcell x) ∗ reached ER (kcell x) 0))
    ∗ bigSep Finset.univ (fun x : Dev nD × Fin 2 => Release.slotInv EK (κ x) x (rSlotAny x.1 x.2))
    ∗ levAts L lv)

/-- What every device knows may be used again and again. -/
instance shared_persistent : BI.Persistent (shared (F := F) m ρ K κ) := by unfold shared; infer_instance

/-- It holds the rounds of every cell, -/
theorem shared_cell (x : Dev nD × Fin 6) : shared m ρ K κ ⊢ iprop(cellInv ER (Rd (F := F) m ρ) (K x) (kcell x) ∗ reached ER (kcell x) 0) := by
  unfold shared
  have h : bigSep Finset.univ (fun x : Dev nD × Fin 6 => iprop(cellInv ER (Rd (F := F) m ρ) (K x) (kcell x) ∗ reached ER (kcell x) 0))
      ⊢ iprop(cellInv ER (Rd (F := F) m ρ) (K x) (kcell x) ∗ reached ER (kcell x) 0) := bigSep_elim (Finset.mem_univ x)
  iintro ⟨H, -, -⟩
  iapply h
  iexact H
/-- the record of every slot, -/
theorem shared_slot (x : Dev nD × Fin 2) : shared (F := F) m ρ K κ ⊢ Release.slotInv EK (κ x) x (rSlotAny x.1 x.2) := by
  unfold shared
  have h : bigSep Finset.univ (fun x : Dev nD × Fin 2 => Release.slotInv EK (κ x) x (rSlotAny (F := F) x.1 x.2))
      ⊢ Release.slotInv EK (κ x) x (rSlotAny (F := F) x.1 x.2) := bigSep_elim (Finset.mem_univ x)
  iintro ⟨-, H, -⟩
  iapply h
  iexact H
/-- and the levels. -/
theorem shared_lev : shared (F := F) m ρ K κ ⊢ levAts L lv := by
  unfold shared
  iintro ⟨-, -, H⟩; iexact H
/-- The rounds of the barrier. -/
theorem shared_bar (c : Dev nD) : shared m ρ K κ ⊢ iprop(cellInv ER (Rd (F := F) m ρ) (K (c, 0)) (barCell c) ∗ reached ER (barCell c) 0) := shared_cell m ρ K κ (c, 0)
/-- The rounds of the credit semaphore. -/
theorem shared_cr (c : Dev nD) : shared m ρ K κ ⊢ iprop(cellInv ER (Rd (F := F) m ρ) (K (c, 5)) (crCell c) ∗ reached ER (crCell c) 0) := shared_cell m ρ K κ (c, 5)
/-- The rounds of a send semaphore. -/
theorem shared_s (c : Dev nD) (b : Fin 2) : shared m ρ K κ ⊢ cellInv ER (Rd (F := F) m ρ) (K (c, iS b)) (sCell c b) := by
  have h := shared_cell m ρ K κ (c, iS b); rw [kcell_s] at h
  exact h.trans (by iintro ⟨H, -⟩; iexact H)
/-- The rounds of a receive semaphore. -/
theorem shared_r (c : Dev nD) (b : Fin 2) : shared m ρ K κ ⊢ cellInv ER (Rd (F := F) m ρ) (K (c, iR b)) (rCell c b) := by
  have h := shared_cell m ρ K κ (c, iR b); rw [kcell_r] at h
  exact h.trans (by iintro ⟨H, -⟩; iexact H)

/-! ## What a device holds -/

/-- The staged operands of device `c`. -/
def xH (c : Dev nD) : sProp 𝕄 := ((c : Thread nD τ).loc cc0_stg0_0) ↦{fullShare} (xstg m ρ c)
/-- The staged second argument of device `c`. -/
def wH (c : Dev nD) : sProp 𝕄 := ((c : Thread nD τ).loc cc0_stg1_0) ↦{fullShare} (wstg m ρ c)

/-- What device `c` owes, whatever it has waited for. -/
def owe (c : Dev nD) (O : CellTallies nD τ sig ℕ) : sProp 𝕄 := iprop(∃ W : Waits sig ℕ, owes (c : Thread nD τ) O W)

/-- Where device `c` stands in the rounds of the cells that step `t` uses. -/
def posS (c : Dev nD) (t : ℕ) : sProp 𝕄 := iprop(atPos ER (sCell c (sl t)) (t / 2) ∅ 0 ∗ reached ER (sCell c (sl t)) (t / 2))
/-- The same of the receive cell. -/
def posR (c : Dev nD) (t : ℕ) : sProp 𝕄 := iprop(atPos ER (rCell c (sl t)) (t / 2) ∅ 0 ∗ reached ER (rCell c (sl t)) (t / 2))

/-- The tokens of step `i`'s transfer. -/
def tokX (c : Dev nD) (i : ℕ) : sProp 𝕄 :=
  iprop(dutyTok ER (sCell c (sl i)) (i / 2) 0 ∗ dutyTok ER (rCell (nxt c) (sl i)) (i / 2) 0
    ∗ Release.writeTok EK (nxt c, sl i) (i / 2 + 1) ∗ cred (tallyAt (rCell c (sl i)) i N))
/-- The tokens of step `i`'s credits: the one it gives, and the one it waits for. -/
def tokC (c : Dev nD) (i : ℕ) : sProp 𝕄 := if i < 13 then dutyTok ER (crCell (prv c)) 0 i else iprop(emp)
/-- The credit that step `i` waits for. -/
def tokW (c : Dev nD) (i : ℕ) : sProp 𝕄 := if 2 ≤ i then cred (tallyAt (crCell c) (i - 2) 1) else iprop(emp)
/-- All the tokens of step `i`. -/
def toks (c : Dev nD) (i : ℕ) : sProp 𝕄 := iprop(tokX c i ∗ tokC c i ∗ tokW c i)

/-- The reader's count of the slot that step `t` reads, as long as the slot is to be released. -/
def rdr (c : Dev nD) (t : ℕ) : sProp 𝕄 := if t < 13 then Release.readerAt EK (c, sl t) (t / 2 + 1) else iprop(emp)

/-- The credits collected before step `s`. -/
def crSt (c : Dev nD) (s : ℕ) : sProp 𝕄 :=
  iprop(∃ T : Finset ℕ, ⌜T ⊆ Finset.range 13 ∧ s - 2 ≤ T.card⌝ ∗ atPos ER (crCell c) 0 T (s - 2) ∗ bigSep T (fun k => readyUpto (nxt c) (k + 1)))

/-- Everything device `c` holds before step `s`, besides the result's staging buffer. -/
def St (c : Dev nD) (s : ℕ) : sProp 𝕄 :=
  iprop(owe c (Os c s) ∗ xH m ρ c ∗ wH m ρ c
    ∗ sHolds c (sl s) (sent m ρ s c) ∗ (∃ Y, sHolds c (sl (s + 1)) Y)
    ∗ (posS c s ∗ posS c (s + 1)) ∗ (posR c s ∗ posR c (s + 1))
    ∗ bigSep (Finset.Ico s 15) (fun i => toks c i)
    ∗ (rdr c s ∗ rdr c (s + 1)) ∗ readyUpto c (min s 13) ∗ crSt c s
    ∗ (ready (nxt c) 0 ∗ ready (nxt c) 1))

/-! ## The transfer -/

/-- Starting the transfer of step `s`: the send slot and the neighbour's receive slot go with it. -/
theorem send_step (c : Dev nD) (s : ℕ) (hs : s < 15) (b : Fin 2) (hb : b = sl s) (Q : PUnit → sProp 𝕄) :
    iprop(shared m ρ K κ ∗ owe c (Os c s) ∗ sHolds c b (sent m ρ s c) ∗ rSlotAny (nxt c) b
        ∗ dutyTok ER (sCell c b) (s / 2) 0 ∗ reached ER (sCell c b) (s / 2)
        ∗ dutyTok ER (rCell (nxt c) b) (s / 2) 0 ∗ reached ER (rCell (nxt c) b) (s / 2))
      ⊢ iprop(((cred (tallyAt (sCell c b) s N) ∗ owe c (Os c (s + 1) + dueC' c s)) -∗ Q ⟨⟩) -∗ run c (opSend c b) Q) := by
  subst hb
  unfold sHolds rSlotAny Release.slot owe opSend
  simp only [Prog.lift]
  iintro ⟨#Hsh, ⟨%W, HO⟩, ⟨%fs, %hfs, Hs⟩, ⟨%fd, Hd⟩, HtS, #HrS, HtR, #HrR⟩ Hk
  ihave #HIs := (shared_s m ρ K κ c (sl s)) $$ Hsh
  ihave #HIr := (shared_r m ρ K κ (nxt c) (sl s)) $$ Hsh
  iapply (Rounds.wp_send_pointsTo 𝒱₀ ER (Rd m ρ) (c : Thread nD τ) none (c' := (nxt c : Thread nD τ)) (src := sSlot (sl s)) (dst := rSlot (sl s)) (sS := .dma (sSem (sl s))) (sem := .dma (rSem (sl s)))
    (κ₁ := K (c, iS (sl s))) (κ₂ := K (nxt c, iR (sl s)))
    (q := fullShare) (fs := fs) (r₁ := s / 2) (r₂ := s / 2) (d₁ := 0) (d₂ := 0) (fd := fd)
    (by rw [duties_s_at m ρ c hs]; exact Finset.mem_singleton_self _) (by rw [duties_r_at m ρ (nxt c) hs]; exact Finset.mem_singleton_self _)
    s s N (N_r (sl s)) (amount_s m ρ c (sl s) (s / 2) 0) (amount_r m ρ (nxt c) (sl s) (s / 2) 0) (Os c (s + 1) + dueC' c s) (Os_step c hs) (W := W)
    (by
      rw [pay_s_at, sSlot_set]; unfold sHolds sAt
      iintro H; iexists fs
      isplitr; · ipureintro; exact hfs
      iexact H)
    (by
      rw [pay_r_at, rSlot_set, prv_nxt]; unfold rHolds rAt
      iintro H; iexists _
      isplitr; swap; · iexact H
      ipureintro; exact (land_read (sl s) fd fs).trans hfs)) $$ [HO Hs Hd HtS HtR]
  · isplitr; · iexact HIs
    isplitr; · iexact HIr
    isplitl [Hs]; · rw [sSlot_set]; unfold sAt; iexact Hs
    isplitl [Hd]; · rw [rSlot_set]; iexact Hd
    isplitl [HO]; · iexact HO
    isplitl [HtS]; · iexact HtS
    isplitr; · iexact HrS
    isplitl [HtR]; · iexact HtR
    iexact HrR
  iintro ⟨Hc, HO⟩
  rw [wp_ret]; imodintro
  iapply Hk
  isplitl [Hc]; · iexact Hc
  iexists W; iexact HO

/-- Waiting for the send of step `s`: the send slot comes back. -/
theorem waitS_step (c : Dev nD) (s : ℕ) (hs : s < 15) (b : Fin 2) (hb : b = sl s) (Q : PUnit → sProp 𝕄) :
    iprop(shared m ρ K κ ∗ owe c (Os c (s + 1) + dueC' c s) ∗ cred (tallyAt (sCell c b) s N) ∗ atPos ER (sCell c b) (s / 2) ∅ 0)
      ⊢ iprop(((owe c (Os c (s + 1) + dueC' c s) ∗ posS c (s + 2) ∗ sHolds c b (sent m ρ s c)) -∗ Q ⟨⟩) -∗ run c (opWaitS b) Q) := by
  subst hb
  unfold owe opWaitS posS
  rw [sl_two, show (s + 2) / 2 = s / 2 + 1 by omega]
  simp only [Prog.lift]
  iintro ⟨#Hsh, ⟨%W, HO⟩, Hc, Hat⟩ Hk
  ihave #HIs := (shared_s m ρ K κ c (sl s)) $$ Hsh
  have hw := wpE_waitDma2_eq (Val := Elt F) (U := UU) (Lvl := ℕ) (Ix := ℕ) (Name := ℕ) (defs := defs₀ (F := F)) 𝒱₀ (c : Thread nD τ) none Set.univ (sem := sSem (sl s))
    (src := rSlot (sl s)) (dst := sSlot (sl s)) (hsrc := rWords (sl s)) (hdst := sWords (sl s))
  rw [N_s (sl s)] at hw
  iapply (Rounds.wp_wait_rest_token 𝒱₀ ER (Rd m ρ) (c : Thread nD τ) none (κ := K (c, iS (sl s)))
      hw (Set.mem_univ _) s (O := Os c (s + 1) + dueC' c s) (W := W) (R := s / 2) (m := 0) (T := ∅)
      (by rw [Nat.zero_add]; exact (expect_s_at m ρ c hs).symm)) $$ [Hc HO Hat]
  · isplitr; · iexact HIs
    isplitl [Hc]; · iexact Hc
    isplitl [HO]; · iexact HO
    isplitr; · iapply ((shared_lev m ρ K κ).trans (may_s c (sl s) s hs)); iexact Hsh
    iexact Hat
  iintro ⟨HO, Hat, #Hr, Hpay⟩
  ihave Hs := (Entails.of_eq (rest_s m ρ c hs)) $$ Hpay
  rw [wp_ret]; imodintro
  iapply Hk
  isplitl [HO]; · iexists _; iexact HO
  isplitl [Hat]
  · isplitl [Hat]; · iexact Hat
    iexact Hr
  iexact Hs

/-- Waiting for the arrival of step `s`: the receive slot comes with what the left neighbour sent. -/
theorem waitR_step (c : Dev nD) (s : ℕ) (hs : s < 15) (b : Fin 2) (hb : b = sl s) (Q : PUnit → sProp 𝕄) :
    iprop(shared m ρ K κ ∗ owe c (Os c (s + 1) + dueC' c s) ∗ cred (tallyAt (rCell c b) s N) ∗ atPos ER (rCell c b) (s / 2) ∅ 0)
      ⊢ iprop(((owe c (Os c (s + 1) + dueC' c s) ∗ posR c (s + 2) ∗ rHolds c b (sent m ρ s (prv c))) -∗ Q ⟨⟩) -∗ run c (opWaitR b) Q) := by
  subst hb
  unfold owe opWaitR posR
  rw [sl_two, show (s + 2) / 2 = s / 2 + 1 by omega]
  simp only [Prog.lift]
  iintro ⟨#Hsh, ⟨%W, HO⟩, Hc, Hat⟩ Hk
  ihave #HIs := (shared_r m ρ K κ c (sl s)) $$ Hsh
  have hw := wpE_waitDma2_eq (Val := Elt F) (U := UU) (Lvl := ℕ) (Ix := ℕ) (Name := ℕ) (defs := defs₀ (F := F)) 𝒱₀ (c : Thread nD τ) none Set.univ (sem := rSem (sl s))
    (src := sSlot (sl s)) (dst := rSlot (sl s)) (hsrc := sWords (sl s)) (hdst := rWords (sl s))
  rw [N_r (sl s)] at hw
  iapply (Rounds.wp_wait_rest_token 𝒱₀ ER (Rd m ρ) (c : Thread nD τ) none (κ := K (c, iR (sl s)))
      hw (Set.mem_univ _) s (O := Os c (s + 1) + dueC' c s) (W := W) (R := s / 2) (m := 0) (T := ∅)
      (by rw [Nat.zero_add]; exact (expect_r_at m ρ c hs).symm)) $$ [Hc HO Hat]
  · isplitr; · iexact HIs
    isplitl [Hc]; · iexact Hc
    isplitl [HO]; · iexact HO
    isplitr; · iapply ((shared_lev m ρ K κ).trans (may_r c (sl s) s hs)); iexact Hsh
    iexact Hat
  iintro ⟨HO, Hat, #Hr, Hpay⟩
  ihave Hs := (Entails.of_eq (rest_r m ρ c hs)) $$ Hpay
  rw [wp_ret]; imodintro
  iapply Hk
  isplitl [HO]; · iexists _; iexact HO
  isplitl [Hat]
  · isplitl [Hat]; · iexact Hat
    iexact Hr
  iexact Hs

/-- The transfer of step `s` with its two waits: the slot sent is back, and the left neighbour's has arrived. -/
theorem xfer_step (c : Dev nD) (s : ℕ) (hs : s < 15) (b : Fin 2) (hb : b = sl s) (Q : PUnit → sProp 𝕄) :
    iprop(shared m ρ K κ ∗ owe c (Os c s) ∗ sHolds c b (sent m ρ s c) ∗ posS c s ∗ posR c s ∗ tokX c s ∗ ready (nxt c) s)
      ⊢ iprop(((owe c (Os c (s + 1) + dueC' c s) ∗ sHolds c b (sent m ρ s c) ∗ rHolds c b (sent m ρ s (prv c))
            ∗ posS c (s + 2) ∗ posR c (s + 2)) -∗ Q ⟨⟩) -∗ run c (xfer c b) Q) := by
  subst hb
  unfold xfer
  iintro ⟨#Hsh, HO, Hs, HpS, HpR, Ht, #Hrdy⟩ Hk
  ihave HpS' := (show posS (F := F) c s ⊢ iprop(atPos ER (sCell c (sl s)) (s / 2) ∅ 0 ∗ reached ER (sCell c (sl s)) (s / 2)) from by unfold posS; exact BI.Entails.refl _) $$ HpS
  icases HpS' with ⟨HatS, #HrS⟩
  ihave HpR' := (show posR (F := F) c s ⊢ iprop(atPos ER (rCell c (sl s)) (s / 2) ∅ 0 ∗ reached ER (rCell c (sl s)) (s / 2)) from by unfold posR; exact BI.Entails.refl _) $$ HpR
  icases HpR' with ⟨HatR, -⟩
  unfold tokX ready
  icases Ht with ⟨HtS, HtR, Hw, HcR⟩
  icases Hrdy with ⟨#Hrel, #HrR⟩
  ihave #HIslot := (shared_slot m ρ K κ (nxt c, sl s)) $$ Hsh
  imod (Release.slot_take EK (Set.mem_univ (κ (nxt c, sl s))) (s / 2 + 1)) $$ [Hw] with Hd
  · isplitr; · iexact HIslot
    isplitr; · iexact Hrel
    iexact Hw
  rw [wp_bind]
  iapply (send_step m ρ K κ c s hs (sl s) rfl) $$ [HO Hs Hd HtS HtR]
  · isplitr; · iexact Hsh
    isplitl [HO]; · iexact HO
    isplitl [Hs]; · iexact Hs
    isplitl [Hd]; · iexact Hd
    isplitl [HtS]; · iexact HtS
    isplitr; · iexact HrS
    isplitl [HtR]; · iexact HtR
    iexact HrR
  iintro ⟨Hc, HO⟩
  rw [wp_bind]
  iapply (waitS_step m ρ K κ c s hs (sl s) rfl) $$ [HO Hc HatS]
  · isplitr; · iexact Hsh
    isplitl [HO]; · iexact HO
    isplitl [Hc]; · iexact Hc
    iexact HatS
  iintro ⟨HO, HpS, Hs⟩
  iapply (waitR_step m ρ K κ c s hs (sl s) rfl) $$ [HO HcR HatR]
  · isplitr; · iexact Hsh
    isplitl [HO]; · iexact HO
    isplitl [HcR]; · iexact HcR
    iexact HatR
  iintro ⟨HO, HpR, Hr⟩
  iapply Hk
  isplitl [HO]; · iexact HO
  isplitl [Hs]; · iexact Hs
  isplitl [Hr]; · iexact Hr
  isplitl [HpS]; · iexact HpS
  iexact HpR

/-! ## The computing part -/

/-- The product of a step and the store of the next block to send. -/
theorem comp_step (c : Dev nD) (b nb : Fin 2) (r : Fin 15) (v : Vec F S1x512x4096 .bf16) (Q : PUnit → sProp 𝕄) :
    iprop(xH m ρ c ∗ wH m ρ c ∗ rHolds c b v ∗ (∃ Y, sHolds c nb Y))
      ⊢ iprop(((xH m ρ c ∗ wH m ρ c ∗ rHolds c b v ∗ sHolds c nb (payStep (xrow m ρ c r) (wblk m ρ c) v)) -∗ Q ⟨⟩) -∗ run c (comp c b nb r) Q) := by
  unfold comp ldX ldW ldR ldS stS xH wH rHolds sHolds rAt sAt
  simp only [Prog.lift, Prog.bind_op, Prog.bind_ret]
  iintro ⟨Hx, Hw, ⟨%f, %hf, Hr⟩, ⟨%Y, %g, -, Hs⟩⟩ Hk
  subst hf
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_rect 𝒱₀ (c : Thread nD τ) none Set.univ (m := rM) (r := slotR b) (subset_of_eq (rAcc_set b))) $$ Hr; iintro Hr
  iapply (wp_load_rect 𝒱₀ (c : Thread nD τ) none Set.univ (m := sM) (r := slotR nb) (subset_of_eq (sAcc_set nb))) $$ Hs; iintro Hs
  iapply (wp_store 𝒱₀ (c : Thread nD τ) none Set.univ (m := sM) (r := slotR nb) (Mk := Finset.univ)
    (by rw [View.setOn_univ]; exact subset_of_eq (sAcc_set nb))) $$ Hs; iintro Hs
  rw [wp_ret]; imodintro
  iapply Hk
  isplitl [Hx]; · iexact Hx
  isplitl [Hw]; · iexact Hw
  isplitl [Hr]
  · iexists f; isplitr; · (ipureintro; rfl)
    iexact Hr
  iexists _; isplitr; swap; · iexact Hs
  ipureintro; exact View.read_write_univ _ _

/-! ## Credits -/

omit [FloatOps F] in
/-- The units taken earlier and those taken now. -/
theorem heard_more {d : Dev nD} {T S : Finset ℕ} (h : T ⊆ S) :
    iprop(bigSep T (fun k => readyUpto (F := F) d (k + 1)) ∗ bigSep (S \ T) (fun k => readyUpto d (k + 1))) ⊢ bigSep S (fun k => readyUpto d (k + 1)) := by
  have e := bigSep_union (Finset.disjoint_sdiff (s := T) (t := S)) (Φ := fun k => readyUpto (F := F) d (k + 1))
  rw [Finset.union_sdiff_of_subset h] at e
  exact Entails.of_eq e.symm

omit [FloatOps F] in
/-- One of the units taken. -/
theorem heard_one (d : Dev nD) {S : Finset ℕ} {j : ℕ} (h : j ∈ S) :
    bigSep S (fun k => readyUpto (F := F) d (k + 1)) ⊢ (readyUpto d (j + 1) : sProp 𝕄) :=
  bigSep_elim (Φ := fun k => readyUpto (F := F) d (k + 1)) h

/-- Waiting for a credit: the right neighbour's slot of this step is free. -/
theorem cred_step (c : Dev nD) (s : ℕ) (h2 : 2 ≤ s) (hs : s < 14) (Q : PUnit → sProp 𝕄) :
    iprop(shared m ρ K κ ∗ owe c (Os c s) ∗ tokW c s ∗ crSt c s)
      ⊢ iprop(((owe c (Os c s) ∗ crSt c (s + 1) ∗ ready (nxt c) s) -∗ Q ⟨⟩) -∗ run c opCred Q) := by
  obtain ⟨t, rfl⟩ : ∃ t, s = t + 2 := ⟨s - 2, by omega⟩
  unfold owe opCred tokW crSt
  rw [if_pos h2, show t + 2 - 2 = t by omega, show t + 2 + 1 - 2 = t + 1 by omega]
  simp only [semWaitWord, Prog.lift]
  iintro ⟨#Hsh, ⟨%W, HO⟩, Hc, ⟨%T, %hT, Hat, #Hpay⟩⟩ Hk
  ihave ⟨#HI, -⟩ := (shared_cr m ρ K κ c) $$ Hsh
  iapply (Rounds.wp_wait 𝒱₀ ER (Rd m ρ) (c : Thread nD τ) none (κ := K (c, 5))
      (wpE_semWait_eq 𝒱₀ (c : Thread nD τ) none Set.univ) (Set.mem_univ _) (cr := Finsupp.single t 1) (O := Os c (t + 2)) (W := W) {(SemLoc.reg crSem, t)} (R := 0) (m := t) (T := T)
      (by rw [Util.total_single]; rfl) (image_single_subset (SemLoc.reg crSem) t 1)) $$ [Hc HO Hat]
  · isplitr; · iexact HI
    isplitl [Hc]; · iexact Hc
    isplitl [HO]; · iexact HO
    isplitr; · iapply ((shared_lev m ρ K κ).trans (may_cr c t (by omega))); iexact Hsh
    iexact Hat
  iintro %S ⟨%hS, HO, Hat, Hnew⟩
  obtain ⟨hTS, hSd, hcard⟩ := hS
  rw [duties_cr, if_pos rfl] at hSd hcard
  rw [expect_cr] at hcard
  have hcS : t + 1 ≤ S.card := by
    have h1 : (Finset.range 13 \ S).card = 13 - S.card := by rw [Finset.card_sdiff_of_subset hSd, Finset.card_range]
    have h2 : S.card ≤ 13 := by have := Finset.card_le_card hSd; rwa [Finset.card_range] at this
    rw [h1] at hcard
    have h3 : t + (1#32 : BitVec 32).toInt.toNat = t + 1 := rfl
    change t + 1 + (13 - S.card) ≤ 13 at hcard
    omega
  have hpay : bigSep (S \ T) (fun k => (Rd (F := F) m ρ).payload (crCell c) 0 k) = bigSep (S \ T) (fun k => readyUpto (nxt c) (k + 1)) :=
    bigSep_congr fun k _ => pay_cr m ρ c k
  ihave #Hnew' := (Entails.of_eq hpay) $$ Hnew
  ihave #Hall := (show iprop(bigSep T (fun k => readyUpto (F := F) (nxt c) (k + 1)) ∗ bigSep (S \ T) (fun k => readyUpto (nxt c) (k + 1)))
      ⊢ bigSep S (fun k => readyUpto (nxt c) (k + 1)) from
    heard_more hTS) $$ [Hpay Hnew']
  · isplitr; · iexact Hpay
    iexact Hnew'
  obtain ⟨j, hj, htj⟩ := exists_late hcS
  rw [wp_ret]; imodintro
  iapply Hk
  isplitl [HO]; · iexists _; iexact HO
  isplitl [Hat]
  · iexists S
    isplitr; · ipureintro; exact ⟨hSd, hcS⟩
    isplitl [Hat]; · iexact Hat
    iexact Hall
  · iapply (readyUpto_elim (nxt c) (k := j + 1) (t := t) (by omega))
    iapply (heard_one (nxt c) hj)
    iexact Hall

/-- Waiting for the last credit, which closes the round. -/
theorem cred_last (c : Dev nD) (Q : PUnit → sProp 𝕄) :
    iprop(shared m ρ K κ ∗ owe c (Os c 14) ∗ tokW c 14 ∗ crSt c 14)
      ⊢ iprop(((owe c (Os c 14) ∗ atPos ER (crCell c) 1 ∅ 0 ∗ ready (nxt c) 14) -∗ Q ⟨⟩) -∗ run c opCred Q) := by
  unfold owe opCred tokW crSt
  rw [if_pos (by omega)]
  simp only [semWaitWord, Prog.lift]
  iintro ⟨#Hsh, ⟨%W, HO⟩, Hc, ⟨%T, %hT, Hat, #Hpay⟩⟩ Hk
  ihave ⟨#HI, -⟩ := (shared_cr m ρ K κ c) $$ Hsh
  iapply (Rounds.wp_wait_rest_token 𝒱₀ ER (Rd m ρ) (c : Thread nD τ) none (κ := K (c, 5))
      (wpE_semWait_eq 𝒱₀ (c : Thread nD τ) none Set.univ) (Set.mem_univ _) 12 (O := Os c 14) (W := W) (R := 0) (m := 12) (T := T)
      (by rw [expect_cr]; decide)) $$ [Hc HO Hat]
  · isplitr; · iexact HI
    isplitl [Hc]; · iexact Hc
    isplitl [HO]; · iexact HO
    isplitr; · iapply ((shared_lev m ρ K κ).trans (may_cr c 12 (by omega))); iexact Hsh
    iexact Hat
  iintro ⟨HO, Hat, -, Hnew⟩
  have hpay : bigSep ((Rd (F := F) m ρ).duties (crCell c) 0 \ T) (fun k => (Rd (F := F) m ρ).payload (crCell c) 0 k) = bigSep (Finset.range 13 \ T) (fun k => readyUpto (nxt c) (k + 1)) := by
    rw [duties_cr, if_pos rfl]; exact bigSep_congr fun k _ => pay_cr m ρ c k
  ihave #Hnew' := (Entails.of_eq hpay) $$ Hnew
  ihave #Hall := (show iprop(bigSep T (fun k => readyUpto (F := F) (nxt c) (k + 1)) ∗ bigSep (Finset.range 13 \ T) (fun k => readyUpto (nxt c) (k + 1)))
      ⊢ bigSep (Finset.range 13) (fun k => readyUpto (nxt c) (k + 1)) from
    heard_more hT.1) $$ [Hpay Hnew']
  · isplitr; · iexact Hpay
    iexact Hnew'
  rw [wp_ret]; imodintro
  iapply Hk
  isplitl [HO]; · iexists _; iexact HO
  isplitl [Hat]; · iexact Hat
  iapply (readyUpto_elim (nxt c) (k := 12 + 1) (t := 12) (by omega))
  iapply (heard_one (nxt c) (Finset.mem_range.mpr (by omega : 12 < 13)))
  iexact Hall

/-- After the reading of step `s`: the slot is released for the left neighbour's step `s + 2`, and the
    credit of step `s` tells it so. -/
theorem sig_step (c : Dev nD) (s : ℕ) (hs : s < 13) (b : Fin 2) (hb : b = sl s) (Y : Vec F S1x512x4096 .bf16) (Q : PUnit → sProp 𝕄) :
    iprop(shared m ρ K κ ∗ owe c (Os c (s + 1) + dueC' c s) ∗ tokC c s ∗ rdr c s ∗ rHolds c b Y ∗ reached ER (rCell c (sl (s + 2))) ((s + 2) / 2) ∗ readyUpto c s)
      ⊢ iprop(((owe c (Os c (s + 1)) ∗ rdr c (s + 2) ∗ readyUpto c (s + 1)) -∗ Q ⟨⟩) -∗ run c (opSig c) Q) := by
  subst hb
  unfold owe opSig tokC dueC'
  rw [if_pos hs, if_pos hs]
  simp only [semSignalWord, Prog.lift]
  iintro ⟨#Hsh, ⟨%W, HO⟩, Ht, Hrd, Hr, #Hrch, #Hup⟩ Hk
  ihave ⟨#HI, #Hr0⟩ := (shared_cr m ρ K κ (prv c)) $$ Hsh
  ihave #HIslot := (shared_slot m ρ K κ (c, sl s)) $$ Hsh
  ihave Hrd' := (show rdr (F := F) c s ⊢ Release.readerAt EK (c, sl s) (s / 2 + 1) from by unfold rdr; rw [if_pos hs]) $$ Hrd
  ihave Hslot := (show rHolds c (sl s) Y ⊢ Release.slot (rM.view.loc (c : Thread nD τ)) (slotSet (sl s)) from rHolds_any c (sl s) Y) $$ Hr
  imod (Release.slot_release EK (Set.mem_univ (κ (c, sl s))) (Release.slot_slot_false (ℓ := rM.view.loc (c : Thread nD τ)) (I := slotSet (sl s)) (slotSet_nonempty (sl s))) (s / 2 + 1)) $$ [Hrd' Hslot] with ⟨Hrd, #Hrel⟩
  · isplitr; · iexact HIslot
    isplitl [Hrd']; · iexact Hrd'
    iexact Hslot
  ihave #Hup' := (readyUpto_succ (F := F) c s) $$ [Hrel Hrch Hup]
  · isplitr; swap; · iexact Hup
    unfold ready
    isplitr; swap; · iexact Hrch
    rw [sl_two, show (s + 2) / 2 + 1 = s / 2 + 1 + 1 by omega]
    iexact Hrel
  iapply (Rounds.wp_signal 𝒱₀ ER (Rd m ρ) (c : Thread nD τ) none (dst := (prv c : Thread nD τ)) (κ := K (prv c, 5)) (r := 0)
      (d := s) (by rw [duties_cr, if_pos rfl]; exact Finset.mem_range.mpr hs) ((amount_cr m ρ (prv c) 0 s).trans (by decide)) s (Os c (s + 1)) rfl)
    $$ [HO Ht]
  · isplitr; · iexact HI
    isplitl [HO]; · iexact HO
    isplitl [Ht]; · iexact Ht
    isplitr; · rw [pay_cr, nxt_prv]; iexact Hup'
    iexact Hr0
  iintro HO
  rw [wp_ret]; imodintro
  iapply Hk
  isplitl [HO]; · iexists _; iexact HO
  isplitl [Hrd]
  · unfold rdr
    split
    · rw [sl_two, show (s + 2) / 2 + 1 = s / 2 + 1 + 1 by omega]; iexact Hrd
    · iempintro
  iexact Hup'

end Cert.KernelIdeal.Ring

end
-- ==== Proof.KI.Body.lean ====
/-
  The whole body: the barrier and the first partial product, then the fifteen
  steps in a row, then the six cells closed.
-/
module

public import proofs.«01_k».proof.Proof.KI.Step

@[expose] public section

set_option maxRecDepth 10000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Fin 6 → ℕ) (κ : Dev nD × Fin 2 → ℕ)

/-! ## A step from one state to the next -/

omit [FloatOps F] in
/-- The tokens of the steps from `s` on are step `s`'s and those of the later steps. -/
theorem toks_peel (c : Dev nD) {s : ℕ} (hs : s < 15) :
    bigSep (Finset.Ico s 15) (fun i => toks (F := F) c i) ⊢ iprop(toks c s ∗ bigSep (Finset.Ico (s + 1) 15) (fun i => toks c i)) := by
  rw [show Finset.Ico s 15 = insert s (Finset.Ico (s + 1) 15) from by ext i; simp only [Finset.mem_Ico, Finset.mem_insert]; omega,
    bigSep_insert (fun h => by have := (Finset.mem_Ico.mp h).1; omega)]
  exact BI.Entails.refl _

/-- The transfer and the computing part of step `s`, before any credit is given. -/
theorem mid_step (c : Dev nD) (s : ℕ) (hs : s < 15) (b nb : Fin 2) (r : Fin 15) (hb : b = sl s) (hnb : nb = sl (s + 1)) (hr : r = rr s) (Q : PUnit → sProp 𝕄) :
    iprop(shared m ρ K κ ∗ owe c (Os c s) ∗ xH m ρ c ∗ wH m ρ c ∗ sHolds c (sl s) (sent m ρ s c) ∗ (∃ Y, sHolds c (sl (s + 1)) Y)
        ∗ posS c s ∗ posR c s ∗ tokX c s ∗ ready (nxt c) s)
      ⊢ iprop(((owe c (Os c (s + 1) + dueC' c s) ∗ xH m ρ c ∗ wH m ρ c ∗ sHolds c (sl (s + 1)) (sent m ρ (s + 1) c) ∗ (∃ Y, sHolds c (sl (s + 2)) Y)
            ∗ rHolds c (sl s) (sent m ρ s (prv c)) ∗ posS c (s + 2) ∗ posR c (s + 2)) -∗ Q ⟨⟩)
          -∗ run c (xfer c b) (fun _ => run c (comp c b nb r) Q)) := by
  subst hb; subst hnb; subst hr
  iintro ⟨#Hsh, HO, Hx, Hw, Hs, Hs', HpS, HpR, Ht, #Hrdy⟩ Hk
  iapply (xfer_step m ρ K κ c s hs (sl s) rfl) $$ [HO Hs HpS HpR Ht]
  · isplitr; · iexact Hsh
    isplitl [HO]; · iexact HO
    isplitl [Hs]; · iexact Hs
    isplitl [HpS]; · iexact HpS
    isplitl [HpR]; · iexact HpR
    isplitl [Ht]; · iexact Ht
    iexact Hrdy
  iintro ⟨HO, Hs, Hr, HpS, HpR⟩
  iapply (comp_step m ρ c (sl s) (sl (s + 1)) (rr s) (sent m ρ s (prv c))) $$ [Hx Hw Hr Hs']
  · isplitl [Hx]; · iexact Hx
    isplitl [Hw]; · iexact Hw
    isplitl [Hr]; · iexact Hr
    iexact Hs'
  iintro ⟨Hx, Hw, Hr, Hs'⟩
  iapply Hk
  isplitl [HO]; · iexact HO
  isplitl [Hx]; · iexact Hx
  isplitl [Hw]; · iexact Hw
  isplitl [Hs']; · iexact Hs'
  isplitl [Hs]; · rw [sl_two]; iexists _; iexact Hs
  isplitl [Hr]; · iexact Hr
  isplitl [HpS]; · iexact HpS
  iexact HpR

/-- A step of the first thirteen from where its slot is known to be free: the transfer, the sum, the credit. -/
theorem full_step (c : Dev nD) (s : ℕ) (hs : s < 13) (b nb : Fin 2) (r : Fin 15) (hb : b = sl s) (hnb : nb = sl (s + 1)) (hr : r = rr s) (Q : PUnit → sProp 𝕄) :
    iprop(shared m ρ K κ ∗ owe c (Os c s) ∗ xH m ρ c ∗ wH m ρ c ∗ sHolds c (sl s) (sent m ρ s c) ∗ (∃ Y, sHolds c (sl (s + 1)) Y)
        ∗ (posS c s ∗ posS c (s + 1)) ∗ (posR c s ∗ posR c (s + 1)) ∗ (tokX c s ∗ tokC c s) ∗ bigSep (Finset.Ico (s + 1) 15) (fun i => toks c i)
        ∗ (rdr c s ∗ rdr c (s + 1)) ∗ readyUpto c (min s 13) ∗ crSt c (s + 1) ∗ (ready (nxt c) 0 ∗ ready (nxt c) 1) ∗ ready (nxt c) s)
      ⊢ iprop((St m ρ c (s + 1) -∗ Q ⟨⟩) -∗ run c (xfer c b) (fun _ => run c (comp c b nb r) (fun _ => run c (opSig c) Q))) := by
  rw [show min s 13 = s by omega]
  iintro ⟨#Hsh, HO, Hx, Hw, Hs, Hs', ⟨HpS, HpS'⟩, ⟨HpR, HpR'⟩, ⟨HtX, HtC⟩, Ht, ⟨Hrd, Hrd'⟩, #Hup, Hcr, #H01, #Hrdy⟩ Hk
  iapply (mid_step m ρ K κ c s (by omega) b nb r hb hnb hr) $$ [HO Hx Hw Hs Hs' HpS HpR HtX]
  · isplitr; · iexact Hsh
    isplitl [HO]; · iexact HO
    isplitl [Hx]; · iexact Hx
    isplitl [Hw]; · iexact Hw
    isplitl [Hs]; · iexact Hs
    isplitl [Hs']; · iexact Hs'
    isplitl [HpS]; · iexact HpS
    isplitl [HpR]; · iexact HpR
    isplitl [HtX]; · iexact HtX
    iexact Hrdy
  iintro ⟨HO, Hx, Hw, Hs, Hs', Hr, HpS, HpR⟩
  ihave HpR2 := (show posR (F := F) c (s + 2) ⊢ iprop(atPos ER (rCell c (sl (s + 2))) ((s + 2) / 2) ∅ 0 ∗ reached ER (rCell c (sl (s + 2))) ((s + 2) / 2)) from by unfold posR; exact BI.Entails.refl _) $$ HpR
  icases HpR2 with ⟨HatR, #HrR⟩
  iapply (sig_step m ρ K κ c s hs (sl s) rfl (sent m ρ s (prv c))) $$ [HO HtC Hrd Hr]
  · isplitr; · iexact Hsh
    isplitl [HO]; · iexact HO
    isplitl [HtC]; · iexact HtC
    isplitl [Hrd]; · iexact Hrd
    isplitl [Hr]; · iexact Hr
    isplitr; · iexact HrR
    iexact Hup
  iintro ⟨HO, Hrd, #Hup'⟩
  iapply Hk
  unfold St
  rw [show min (s + 1) 13 = s + 1 by omega]
  isplitl [HO]; · iexact HO
  isplitl [Hx]; · iexact Hx
  isplitl [Hw]; · iexact Hw
  isplitl [Hs]; · iexact Hs
  isplitl [Hs']; · iexact Hs'
  isplitl [HpS HpS']
  · isplitl [HpS']; · iexact HpS'
    iexact HpS
  isplitl [HatR HpR']
  · isplitl [HpR']; · iexact HpR'
    unfold posR
    isplitl [HatR]; · iexact HatR
    iexact HrR
  isplitl [Ht]; · iexact Ht
  isplitl [Hrd Hrd']
  · isplitl [Hrd']; · iexact Hrd'
    iexact Hrd
  isplitr; · iexact Hup'
  isplitl [Hcr]; · iexact Hcr
  iexact H01

omit [FloatOps F] in
/-- Before step 2 no credit is waited for. -/
theorem crSt_early (c : Dev nD) (s : ℕ) (hs : s < 2) : crSt (F := F) c s ⊢ crSt c (s + 1) := by
  unfold crSt
  iintro ⟨%T, %hT, Hat, Hp⟩
  iexists T
  rw [show s + 1 - 2 = s - 2 by omega]
  isplitr; · ipureintro; exact hT
  isplitl [Hat]; · iexact Hat
  iexact Hp

/-- Steps 0 and 1. -/
theorem stepA_step (c : Dev nD) (s : ℕ) (hs : s < 2) (b nb : Fin 2) (r : Fin 15) (hb : b = sl s) (hnb : nb = sl (s + 1)) (hr : r = rr s) (Q : PUnit → sProp 𝕄) :
    iprop(shared m ρ K κ ∗ St m ρ c s) ⊢ iprop((St m ρ c (s + 1) -∗ Q ⟨⟩) -∗ run c (stepA c b nb r) Q) := by
  unfold stepA
  simp only [wp_bind]
  iintro ⟨#Hsh, HSt⟩ Hk
  ihave HSt' := (show St m ρ c s ⊢ iprop(owe c (Os c s) ∗ xH m ρ c ∗ wH m ρ c
    ∗ sHolds c (sl s) (sent m ρ s c) ∗ (∃ Y, sHolds c (sl (s + 1)) Y)
    ∗ (posS c s ∗ posS c (s + 1)) ∗ (posR c s ∗ posR c (s + 1))
    ∗ bigSep (Finset.Ico s 15) (fun i => toks c i)
    ∗ (rdr c s ∗ rdr c (s + 1)) ∗ readyUpto c (min s 13) ∗ crSt c s
    ∗ (ready (nxt c) 0 ∗ ready (nxt c) 1)) from by unfold St; exact BI.Entails.refl _) $$ HSt
  icases HSt' with ⟨HO, Hx, Hw, Hs, Hs', HpS, HpR, Ht, Hrd, Hup, Hcr, ⟨#H0, #H1⟩⟩
  ihave ⟨Ht0, Ht⟩ := (toks_peel c (by omega : s < 15)) $$ Ht
  ihave Ht0' := (show toks (F := F) c s ⊢ iprop(tokX c s ∗ tokC c s ∗ tokW c s) from by unfold toks; exact BI.Entails.refl _) $$ Ht0
  icases Ht0' with ⟨HtX, HtC, -⟩
  ihave Hcr' := (crSt_early c s hs) $$ Hcr
  iapply (full_step m ρ K κ c s (by omega) b nb r hb hnb hr) $$ [HO Hx Hw Hs Hs' HpS HpR Ht HtX HtC Hrd Hup Hcr']
  · isplitr; · iexact Hsh
    isplitl [HO]; · iexact HO
    isplitl [Hx]; · iexact Hx
    isplitl [Hw]; · iexact Hw
    isplitl [Hs]; · iexact Hs
    isplitl [Hs']; · iexact Hs'
    isplitl [HpS]; · iexact HpS
    isplitl [HpR]; · iexact HpR
    isplitl [HtX HtC]
    · isplitl [HtX]; · iexact HtX
      iexact HtC
    isplitl [Ht]; · iexact Ht
    isplitl [Hrd]; · iexact Hrd
    isplitl [Hup]; · iexact Hup
    isplitl [Hcr']; · iexact Hcr'
    isplitr
    · isplitr; · iexact H0
      iexact H1
    · obtain rfl | rfl : s = 0 ∨ s = 1 := by omega
      · iexact H0
      · iexact H1
  iexact Hk

/-- Steps 2 to 12. -/
theorem stepB_step (c : Dev nD) (s : ℕ) (h2 : 2 ≤ s) (hs : s < 13) (b nb : Fin 2) (r : Fin 15) (hb : b = sl s) (hnb : nb = sl (s + 1)) (hr : r = rr s) (Q : PUnit → sProp 𝕄) :
    iprop(shared m ρ K κ ∗ St m ρ c s) ⊢ iprop((St m ρ c (s + 1) -∗ Q ⟨⟩) -∗ run c (stepB c b nb r) Q) := by
  unfold stepB
  simp only [wp_bind]
  iintro ⟨#Hsh, HSt⟩ Hk
  ihave HSt' := (show St m ρ c s ⊢ iprop(owe c (Os c s) ∗ xH m ρ c ∗ wH m ρ c
    ∗ sHolds c (sl s) (sent m ρ s c) ∗ (∃ Y, sHolds c (sl (s + 1)) Y)
    ∗ (posS c s ∗ posS c (s + 1)) ∗ (posR c s ∗ posR c (s + 1))
    ∗ bigSep (Finset.Ico s 15) (fun i => toks c i)
    ∗ (rdr c s ∗ rdr c (s + 1)) ∗ readyUpto c (min s 13) ∗ crSt c s
    ∗ (ready (nxt c) 0 ∗ ready (nxt c) 1)) from by unfold St; exact BI.Entails.refl _) $$ HSt
  icases HSt' with ⟨HO, Hx, Hw, Hs, Hs', HpS, HpR, Ht, Hrd, Hup, Hcr, #H01⟩
  ihave ⟨Ht0, Ht⟩ := (toks_peel c (by omega : s < 15)) $$ Ht
  ihave Ht0' := (show toks (F := F) c s ⊢ iprop(tokX c s ∗ tokC c s ∗ tokW c s) from by unfold toks; exact BI.Entails.refl _) $$ Ht0
  icases Ht0' with ⟨HtX, HtC, HtW⟩
  iapply (cred_step m ρ K κ c s h2 (by omega)) $$ [HO HtW Hcr]
  · isplitr; · iexact Hsh
    isplitl [HO]; · iexact HO
    isplitl [HtW]; · iexact HtW
    iexact Hcr
  iintro ⟨HO, Hcr, #Hrdy⟩
  iapply (full_step m ρ K κ c s hs b nb r hb hnb hr) $$ [HO Hx Hw Hs Hs' HpS HpR Ht HtX HtC Hrd Hup Hcr]
  · isplitr; · iexact Hsh
    isplitl [HO]; · iexact HO
    isplitl [Hx]; · iexact Hx
    isplitl [Hw]; · iexact Hw
    isplitl [Hs]; · iexact Hs
    isplitl [Hs']; · iexact Hs'
    isplitl [HpS]; · iexact HpS
    isplitl [HpR]; · iexact HpR
    isplitl [HtX HtC]
    · isplitl [HtX]; · iexact HtX
      iexact HtC
    isplitl [Ht]; · iexact Ht
    isplitl [Hrd]; · iexact Hrd
    isplitl [Hup]; · iexact Hup
    isplitl [Hcr]; · iexact Hcr
    isplitr; · iexact H01
    iexact Hrdy
  iexact Hk

/-- What a device holds before the last step. -/
def Late (c : Dev nD) : sProp 𝕄 :=
  iprop(owe c (Os c 14) ∗ xH m ρ c ∗ wH m ρ c
    ∗ sHolds c (sl 14) (sent m ρ 14 c) ∗ (∃ Y, sHolds c (sl 15) Y)
    ∗ (posS c 14 ∗ posS c 15) ∗ (posR c 14 ∗ posR c 15)
    ∗ toks c 14 ∗ crSt c 14 ∗ rSlotAny c (sl 13))

/-- Step 13: no credit is given any more, and the slot read stays with its owner. -/
theorem stepC_step (c : Dev nD) (b nb : Fin 2) (r : Fin 15) (hb : b = sl 13) (hnb : nb = sl 14) (hr : r = rr 13) (Q : PUnit → sProp 𝕄) :
    iprop(shared m ρ K κ ∗ St m ρ c 13) ⊢ iprop((Late m ρ c -∗ Q ⟨⟩) -∗ run c (stepC c b nb r) Q) := by
  unfold stepC
  simp only [wp_bind]
  iintro ⟨#Hsh, HSt⟩ Hk
  ihave HSt' := (show St m ρ c 13 ⊢ iprop(owe c (Os c 13) ∗ xH m ρ c ∗ wH m ρ c
    ∗ sHolds c (sl 13) (sent m ρ 13 c) ∗ (∃ Y, sHolds c (sl (13 + 1)) Y)
    ∗ (posS c 13 ∗ posS c (13 + 1)) ∗ (posR c 13 ∗ posR c (13 + 1))
    ∗ bigSep (Finset.Ico 13 15) (fun i => toks c i)
    ∗ (rdr c 13 ∗ rdr c (13 + 1)) ∗ readyUpto c (min 13 13) ∗ crSt c 13
    ∗ (ready (nxt c) 0 ∗ ready (nxt c) 1)) from by unfold St; exact BI.Entails.refl _) $$ HSt
  icases HSt' with ⟨HO, Hx, Hw, Hs, Hs', ⟨HpS, HpS'⟩, ⟨HpR, HpR'⟩, Ht, -, -, Hcr, -⟩
  ihave ⟨Ht0, Ht⟩ := (toks_peel c (by omega : 13 < 15)) $$ Ht
  ihave ⟨Ht1, -⟩ := (toks_peel c (by omega : 14 < 15)) $$ Ht
  ihave Ht0' := (show toks (F := F) c 13 ⊢ iprop(tokX c 13 ∗ tokC c 13 ∗ tokW c 13) from by unfold toks; exact BI.Entails.refl _) $$ Ht0
  icases Ht0' with ⟨HtX, -, HtW⟩
  iapply (cred_step m ρ K κ c 13 (by omega) (by omega)) $$ [HO HtW Hcr]
  · isplitr; · iexact Hsh
    isplitl [HO]; · iexact HO
    isplitl [HtW]; · iexact HtW
    iexact Hcr
  iintro ⟨HO, Hcr, #Hrdy⟩
  iapply (mid_step m ρ K κ c 13 (by omega) b nb r hb hnb hr) $$ [HO Hx Hw Hs Hs' HpS HpR HtX]
  · isplitr; · iexact Hsh
    isplitl [HO]; · iexact HO
    isplitl [Hx]; · iexact Hx
    isplitl [Hw]; · iexact Hw
    isplitl [Hs]; · iexact Hs
    isplitl [Hs']; · iexact Hs'
    isplitl [HpS]; · iexact HpS
    isplitl [HpR]; · iexact HpR
    isplitl [HtX]; · iexact HtX
    iexact Hrdy
  iintro ⟨HO, Hx, Hw, Hs, Hs', Hr, HpS, HpR⟩
  iapply Hk
  unfold Late
  isplitl [HO]
  · rw [show Os c (13 + 1) + dueC' c 13 = Os c 14 from add_zero _]; iexact HO
  isplitl [Hx]; · iexact Hx
  isplitl [Hw]; · iexact Hw
  isplitl [Hs]; · iexact Hs
  isplitl [Hs']; · iexact Hs'
  isplitl [HpS HpS']
  · isplitl [HpS']; · iexact HpS'
    iexact HpS
  isplitl [HpR HpR']
  · isplitl [HpR']; · iexact HpR'
    iexact HpR
  isplitl [Ht1]; · iexact Ht1
  isplitl [Hcr]; · iexact Hcr
  iapply (rHolds_any c (sl 13) (sent m ρ 13 (prv c))); iexact Hr

/-- The staged result of device `c`, at contents `f`. -/
def oH (c : Dev nD) (f : Buf (Elt F) ((c : Thread nD τ).loc cc0_stg2_0)) : sProp 𝕄 := ((c : Thread nD τ).loc cc0_stg2_0) ↦{fullShare} f

omit [FloatOps F] in
/-- The offset of a whole block is zero along both axes. -/
theorem zeros : (![0, 0] : Fin 2 → ℕ) = fun _ => 0 := by funext a; fin_cases a <;> rfl
omit [FloatOps F] in
/-- Storing the whole result. -/
theorem write_out (f w : (cc0_stg2_0 : Ref sig .tc).ty.Contents (Elt F)) :
    (oM.access wR).write (Elt F) f w Finset.univ = w :=
  Memref.write_access_unit_zero_univ (Elt F) cc0_stg2_0 zeros _ f w

/-- What a device holds when its body ends. -/
def Done (c : Dev nD) : sProp 𝕄 :=
  iprop(owe c 0 ∗ xH m ρ c ∗ wH m ρ c ∗ oH c (outv m ρ c)
    ∗ ((∃ Y, sHolds c 0 Y) ∗ (∃ Y, sHolds c 1 Y)) ∗ (rSlotAny c 0 ∗ rSlotAny c 1)
    ∗ (posS c 15 ∗ posS c 16) ∗ (posR c 15 ∗ posR c 16) ∗ atPos ER (crCell c) 1 ∅ 0)

/-- The last product: the result's buffer ends at the device's product plus what it received. -/
theorem fin_step (c : Dev nD) (v : Vec F S1x512x4096 .bf16) (Q : PUnit → sProp 𝕄) :
    iprop(xH m ρ c ∗ wH m ρ c ∗ rHolds c 0 v ∗ (∃ f, oH c f))
      ⊢ iprop(((xH m ρ c ∗ wH m ρ c ∗ rHolds c 0 v ∗ oH c (k0_pay1 (xrow m ρ c 0) (wblk m ρ c) v)) -∗ Q ⟨⟩) -∗ run c (fin c) Q) := by
  unfold fin ldX ldW ldR ldO stO xH wH rHolds oH rAt
  simp only [Prog.lift, Prog.bind_op, Prog.bind_ret]
  iintro ⟨Hx, Hw, ⟨%f, %hf, Hr⟩, ⟨%g, Ho⟩⟩ Hk
  subst hf
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_rect 𝒱₀ (c : Thread nD τ) none Set.univ (m := rM) (r := slotR 0) (subset_of_eq (rAcc_set 0))) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := wR) (Mk := Finset.univ) (Finset.subset_univ _)) $$ Ho; iintro Ho
  rw [write_out, wp_ret]; imodintro
  iapply Hk
  isplitl [Hx]; · iexact Hx
  isplitl [Hw]; · iexact Hw
  isplitl [Hr]
  · iexists f; isplitr; · (ipureintro; rfl)
    iexact Hr
  iexact Ho

/-- Step 14: the last arrival is added and the sum stored as the result. -/
theorem stepD_step (c : Dev nD) (Q : PUnit → sProp 𝕄) :
    iprop(shared m ρ K κ ∗ Late m ρ c ∗ (∃ f, oH c f)) ⊢ iprop((Done m ρ c -∗ Q ⟨⟩) -∗ run c (stepD c 0) Q) := by
  unfold stepD Late
  simp only [wp_bind]
  iintro ⟨#Hsh, ⟨HO, Hx, Hw, Hs, Hs', ⟨HpS, HpS'⟩, ⟨HpR, HpR'⟩, Ht, Hcr, Hr13⟩, Ho⟩ Hk
  ihave Ht0' := (show toks (F := F) c 14 ⊢ iprop(tokX c 14 ∗ tokC c 14 ∗ tokW c 14) from by unfold toks; exact BI.Entails.refl _) $$ Ht
  icases Ht0' with ⟨HtX, -, HtW⟩
  iapply (cred_last m ρ K κ c) $$ [HO HtW Hcr]
  · isplitr; · iexact Hsh
    isplitl [HO]; · iexact HO
    isplitl [HtW]; · iexact HtW
    iexact Hcr
  iintro ⟨HO, Hcr, #Hrdy⟩
  iapply (xfer_step m ρ K κ c 14 (by omega) 0 rfl) $$ [HO Hs HpS HpR HtX]
  · isplitr; · iexact Hsh
    isplitl [HO]; · iexact HO
    isplitl [Hs]; · iexact Hs
    isplitl [HpS]; · iexact HpS
    isplitl [HpR]; · iexact HpR
    isplitl [HtX]; · iexact HtX
    iexact Hrdy
  iintro ⟨HO, Hs, Hr, HpS, HpR⟩
  iapply (fin_step m ρ c (sent m ρ 14 (prv c))) $$ [Hx Hw Hr Ho]
  · isplitl [Hx]; · iexact Hx
    isplitl [Hw]; · iexact Hw
    isplitl [Hr]; · iexact Hr
    iexact Ho
  iintro ⟨Hx, Hw, Hr, Ho⟩
  iapply Hk
  unfold Done
  isplitl [HO]
  · rw [show Os c (14 + 1) + dueC' c 14 = 0 from (add_zero _).trans (Os_end c)]; iexact HO
  isplitl [Hx]; · iexact Hx
  isplitl [Hw]; · iexact Hw
  isplitl [Ho]; · iexact Ho
  isplitl [Hs Hs']
  · isplitl [Hs]; · iexists _; iexact Hs
    iexact Hs'
  isplitl [Hr Hr13]
  · isplitl [Hr]; · iapply (rHolds_any c 0 (sent m ρ 14 (prv c))); iexact Hr
    iexact Hr13
  isplitl [HpS HpS']
  · isplitl [HpS']; · iexact HpS'
    iexact HpS
  isplitl [HpR HpR']
  · isplitl [HpR']; · iexact HpR'
    iexact HpR
  iexact Hcr

/-! ## Before the ring -/

/-- What a device holds when its body starts. -/
def Start (c : Dev nD) : sProp 𝕄 :=
  iprop(owe c (O₀ c) ∗ xH m ρ c ∗ wH m ρ c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (Release.readerAt EK (c, 0) 0 ∗ Release.readerAt EK (c, 1) 0)
    ∗ atPos ER (barCell c) 0 ∅ 0 ∗ atPos ER (crCell c) 0 ∅ 0
    ∗ (atPos ER (sCell c 0) 0 ∅ 0 ∗ atPos ER (sCell c 1) 0 ∅ 0) ∗ (atPos ER (rCell c 0) 0 ∅ 0 ∗ atPos ER (rCell c 1) 0 ∅ 0)
    ∗ (dutyTok ER (barCell (prv c)) 0 1 ∗ dutyTok ER (barCell (nxt c)) 0 0 ∗ cred (tallyAt (barCell c) 0 2))
    ∗ bigSep (Finset.Ico 0 15) (fun i => toks c i))

/-- Every send semaphore has reached its first round. -/
theorem shared_sr (c : Dev nD) (b : Fin 2) : shared m ρ K κ ⊢ (reached ER (sCell c b) 0 : sProp 𝕄) := by
  have h := shared_cell m ρ K κ (c, iS b); rw [kcell_s] at h
  exact h.trans (by iintro ⟨-, H⟩; iexact H)
/-- Every receive semaphore has reached its first round. -/
theorem shared_rr (c : Dev nD) (b : Fin 2) : shared m ρ K κ ⊢ (reached ER (rCell c b) 0 : sProp 𝕄) := by
  have h := shared_cell m ρ K κ (c, iR b); rw [kcell_r] at h
  exact h.trans (by iintro ⟨-, H⟩; iexact H)

/-- A receive slot deposited at the start is ready for its first write. -/
theorem deposit (c : Dev nD) (b : Fin 2) (t : ℕ) (hb : sl t = b) (ht : t / 2 = 0) :
    iprop(shared m ρ K κ ∗ Release.readerAt EK (c, b) 0 ∗ rSlotAny c b)
      ⊢ (|={Set.univ}=> (Release.readerAt EK (c, b) 1 ∗ ready c t) : sProp 𝕄) := by
  subst hb
  unfold ready rSlotAny
  rw [ht]
  iintro ⟨#Hsh, Hrd, Hslot⟩
  ihave #HIslot := (shared_slot m ρ K κ (c, sl t)) $$ Hsh
  ihave #Hr := (shared_rr m ρ K κ c (sl t)) $$ Hsh
  imod (Release.slot_release EK (Set.mem_univ (κ (c, sl t))) (Release.slot_slot_false (ℓ := rM.view.loc (c : Thread nD τ)) (I := slotSet (sl t)) (slotSet_nonempty (sl t))) 0) $$ [Hrd Hslot] with ⟨Hrd, #Hrel⟩
  · isplitr; · iexact HIslot
    isplitl [Hrd]; · iexact Hrd
    iexact Hslot
  imodintro
  isplitl [Hrd]; · iexact Hrd
  isplitr; · iexact Hrel
  iexact Hr

/-- The barrier, with both receive slots handed out, and the first partial product. -/
theorem pre_step (c : Dev nD) (Q : Dev nD → sProp 𝕄) :
    iprop(shared m ρ K κ ∗ Start m ρ c)
      ⊢ iprop(((St m ρ c 0 ∗ atPos ER (barCell c) 1 ∅ 0) -∗ Q c) -∗ run c pre Q) := by
  unfold pre ldX1 ldW ldS stS Start owe xH wH
  simp only [semSignalWord, semWaitWord, Prog.lift, Prog.bind_op, Prog.bind_ret, Prog.pure_eq_ret, wp_deviceId]
  iintro ⟨#Hsh, ⟨%W, HO⟩, Hx, Hw, ⟨%fs, Hs⟩, ⟨%fr, Hr⟩, ⟨Hrd0, Hrd1⟩, HatB, HatC, ⟨HatS0, HatS1⟩, ⟨HatR0, HatR1⟩, ⟨HtP, HtN, HcB⟩, Ht⟩ Hk
  ihave ⟨#HIP, #HrP⟩ := (shared_bar m ρ K κ (prv c)) $$ Hsh
  ihave ⟨#HIN, #HrN⟩ := (shared_bar m ρ K κ (nxt c)) $$ Hsh
  ihave ⟨#HIB, -⟩ := (shared_bar m ρ K κ c) $$ Hsh
  ihave ⟨Hr0, Hr1⟩ := (r_split c fr) $$ Hr
  imod (deposit m ρ K κ c 0 0 rfl rfl) $$ [Hrd0 Hr0] with ⟨Hrd0, #Hy0⟩
  · isplitr; · iexact Hsh
    isplitl [Hrd0]; · iexact Hrd0
    iexact Hr0
  imod (deposit m ρ K κ c 1 1 rfl rfl) $$ [Hrd1 Hr1] with ⟨Hrd1, #Hy1⟩
  · isplitr; · iexact Hsh
    isplitl [Hrd1]; · iexact Hrd1
    iexact Hr1
  iapply (Rounds.wp_signal 𝒱₀ ER (Rd m ρ) (c : Thread nD τ) none (dst := (prv c : Thread nD τ)) (κ := K (prv c, 0)) (r := 0)
      (d := 1) (by rw [duties_bar, if_pos rfl]; decide) ((amount_bar m ρ (prv c) 0 1).trans (by decide)) 0 (Os c 0 + tallyAt (barCell (nxt c)) 0 1) rfl)
    $$ [HO HtP]
  · isplitr; · iexact HIP
    isplitl [HO]; · iexact HO
    isplitl [HtP]; · iexact HtP
    isplitr
    · rw [pay_bar1, nxt_prv]
      isplitr; · iexact Hy0
      iexact Hy1
    iexact HrP
  iintro HO
  iapply (Rounds.wp_signal 𝒱₀ ER (Rd m ρ) (c : Thread nD τ) none (dst := (nxt c : Thread nD τ)) (κ := K (nxt c, 0)) (r := 0)
      (d := 0) (by rw [duties_bar, if_pos rfl]; decide) ((amount_bar m ρ (nxt c) 0 0).trans (by decide)) 0 (Os c 0) rfl)
    $$ [HO HtN]
  · isplitr; · iexact HIN
    isplitl [HO]; · iexact HO
    isplitl [HtN]; · iexact HtN
    isplitr; · rw [pay_bar0]; iempintro
    iexact HrN
  iintro HO
  iapply (Rounds.wp_wait_rest_token 𝒱₀ ER (Rd m ρ) (c : Thread nD τ) none (κ := K (c, 0))
      (wpE_semWait_eq 𝒱₀ (c : Thread nD τ) none Set.univ) (Set.mem_univ _) 0 (O := Os c 0) (W := W) (R := 0) (m := 0) (T := ∅)
      (by rw [expect_bar]; decide)) $$ [HcB HO HatB]
  · isplitr; · iexact HIB
    isplitl [HcB]; · iexact HcB
    isplitl [HO]; · iexact HO
    isplitr; · iapply ((shared_lev m ρ K κ).trans (may_bar c)); iexact Hsh
    iexact HatB
  iintro ⟨HO, HatB, -, Hpay⟩
  ihave Hp := (Entails.of_eq (rest_bar m ρ c)) $$ Hpay
  icases Hp with ⟨-, #Hy0', #Hy1'⟩
  ihave ⟨Hs0, Hs1⟩ := (s_split c fs) $$ Hs
  unfold sAt
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_rect 𝒱₀ (c : Thread nD τ) none Set.univ (m := sM) (r := slotR 0) (subset_of_eq (sAcc_set 0))) $$ Hs0; iintro Hs0
  iapply (wp_store 𝒱₀ (c : Thread nD τ) none Set.univ (m := sM) (r := slotR 0) (Mk := Finset.univ)
    (by rw [View.setOn_univ]; exact subset_of_eq (sAcc_set 0))) $$ Hs0; iintro Hs0
  rw [wp_ret]; imodintro
  iapply Hk
  isplitr [HatB]; swap; · iexact HatB
  unfold St owe xH wH
  isplitl [HO]; · iexists _; iexact HO
  isplitl [Hx]; · iexact Hx
  isplitl [Hw]; · iexact Hw
  isplitl [Hs0]
  · unfold sHolds sAt
    iexists _; isplitr; swap; · iexact Hs0
    ipureintro; exact View.read_write_univ _ _
  isplitl [Hs1]
  · unfold sHolds sAt
    iexists _; iexists fs; isplitr; swap; · iexact Hs1
    ipureintro; rfl
  isplitl [HatS0 HatS1]
  · unfold posS
    isplitl [HatS0]
    · isplitl [HatS0]; · iexact HatS0
      iapply (shared_sr m ρ K κ c 0); iexact Hsh
    · isplitl [HatS1]; · iexact HatS1
      iapply (shared_sr m ρ K κ c 1); iexact Hsh
  isplitl [HatR0 HatR1]
  · unfold posR
    isplitl [HatR0]
    · isplitl [HatR0]; · iexact HatR0
      iapply (shared_rr m ρ K κ c 0); iexact Hsh
    · isplitl [HatR1]; · iexact HatR1
      iapply (shared_rr m ρ K κ c 1); iexact Hsh
  isplitl [Ht]; · iexact Ht
  isplitl [Hrd0 Hrd1]
  · unfold rdr
    rw [if_pos (by omega), if_pos (by omega)]
    isplitl [Hrd0]; · iexact Hrd0
    iexact Hrd1
  isplitr; · iapply (readyUpto_zero (F := F) c); iempintro
  isplitl [HatC]
  · unfold crSt
    iexists ∅
    isplitr; · ipureintro; exact ⟨Finset.empty_subset _, Nat.zero_le _⟩
    isplitl [HatC]; · iexact HatC
    rw [bigSep_empty]; iempintro
  isplitr; · iexact Hy0'
  iexact Hy1'

/-! ## The body -/

/-- The ring with its steps numbered. -/
theorem ring_eq : ring (F := F) = (do
    let d ← pre
    stepA d (sl 0) (sl 1) (rr 0)
    stepA d (sl 1) (sl 2) (rr 1)
    stepB d (sl 2) (sl 3) (rr 2)
    stepB d (sl 3) (sl 4) (rr 3)
    stepB d (sl 4) (sl 5) (rr 4)
    stepB d (sl 5) (sl 6) (rr 5)
    stepB d (sl 6) (sl 7) (rr 6)
    stepB d (sl 7) (sl 8) (rr 7)
    stepB d (sl 8) (sl 9) (rr 8)
    stepB d (sl 9) (sl 10) (rr 9)
    stepB d (sl 10) (sl 11) (rr 10)
    stepB d (sl 11) (sl 12) (rr 11)
    stepB d (sl 12) (sl 13) (rr 12)
    stepC d (sl 13) (sl 14) (rr 13)
    stepD d 0) := rfl

/-- What a device holds once its cells are closed. -/
def Closed (c : Dev nD) : sProp 𝕄 :=
  iprop(owe c 0 ∗ xH m ρ c ∗ wH m ρ c ∗ oH c (outv m ρ c)
    ∗ ((∃ Y, sHolds c 0 Y) ∗ (∃ Y, sHolds c 1 Y)) ∗ (rSlotAny c 0 ∗ rSlotAny c 1)
    ∗ semVal (barCell c) 0 ∗ semVal (sCell c 0) 0 ∗ semVal (sCell c 1) 0 ∗ semVal (rCell c 0) 0 ∗ semVal (rCell c 1) 0 ∗ semVal (crCell c) 0)

/-- At the end every cell is past its last round, so its counter is zero. -/
theorem close_all (c : Dev nD) :
    iprop(shared m ρ K κ ∗ Done m ρ c ∗ atPos ER (barCell c) 1 ∅ 0) ⊢ (|={Set.univ}=> Closed m ρ c : sProp 𝕄) := by
  unfold Done Closed posS posR
  iintro ⟨#Hsh, ⟨HO, Hx, Hw, Ho, Hs, Hr, ⟨⟨HS1, -⟩, ⟨HS0, -⟩⟩, ⟨⟨HR1, -⟩, ⟨HR0, -⟩⟩, HC⟩, HB⟩
  ihave ⟨#HIB, -⟩ := (shared_bar m ρ K κ c) $$ Hsh
  ihave ⟨#HIC, -⟩ := (shared_cr m ρ K κ c) $$ Hsh
  ihave #HIS0 := (shared_s m ρ K κ c 0) $$ Hsh
  ihave #HIS1 := (shared_s m ρ K κ c 1) $$ Hsh
  ihave #HIR0 := (shared_r m ρ K κ c 0) $$ Hsh
  ihave #HIR1 := (shared_r m ρ K κ c 1) $$ Hsh
  imod (Rounds.cell_close ER (Rd m ρ) (Set.mem_univ (K (c, 0))) (fun h => h) (R := 1) (bar_later m ρ c)) $$ [HB] with HzB
  · isplitr; · iexact HIB
    iexact HB
  imod (Rounds.cell_close ER (Rd m ρ) (Set.mem_univ (K (c, iS 0))) (fun h => h) (R := 8) (s_later m ρ c 0)) $$ [HS0] with HzS0
  · isplitr; · iexact HIS0
    iexact HS0
  imod (Rounds.cell_close ER (Rd m ρ) (Set.mem_univ (K (c, iS 1))) (fun h => h) (R := 7) (s_later m ρ c 1)) $$ [HS1] with HzS1
  · isplitr; · iexact HIS1
    iexact HS1
  imod (Rounds.cell_close ER (Rd m ρ) (Set.mem_univ (K (c, iR 0))) (fun h => h) (R := 8) (r_later m ρ c 0)) $$ [HR0] with HzR0
  · isplitr; · iexact HIR0
    iexact HR0
  imod (Rounds.cell_close ER (Rd m ρ) (Set.mem_univ (K (c, iR 1))) (fun h => h) (R := 7) (r_later m ρ c 1)) $$ [HR1] with HzR1
  · isplitr; · iexact HIR1
    iexact HR1
  imod (Rounds.cell_close ER (Rd m ρ) (Set.mem_univ (K (c, 5))) (fun h => h) (R := 1) (cr_later m ρ c)) $$ [HC] with HzC
  · isplitr; · iexact HIC
    iexact HC
  imodintro
  isplitl [HO]; · iexact HO
  isplitl [Hx]; · iexact Hx
  isplitl [Hw]; · iexact Hw
  isplitl [Ho]; · iexact Ho
  isplitl [Hs]; · iexact Hs
  isplitl [Hr]; · iexact Hr
  isplitl [HzB]; · iexact HzB
  isplitl [HzS0]; · iexact HzS0
  isplitl [HzS1]; · iexact HzS1
  isplitl [HzR0]; · iexact HzR0
  isplitl [HzR1]; · iexact HzR1
  iexact HzC

/-- The whole body on device `c`. -/
theorem ring_step (c : Dev nD) (Q : PUnit → sProp 𝕄) :
    iprop(shared m ρ K κ ∗ Start m ρ c ∗ (∃ f, oH c f)) ⊢ iprop((Closed m ρ c -∗ Q ⟨⟩) -∗ run c ring Q) := by
  rw [ring_eq]
  simp only [wp_bind]
  iintro ⟨#Hsh, Hst, Ho⟩ Hk
  iapply (pre_step m ρ K κ c) $$ [Hst]
  · isplitr; · iexact Hsh
    iexact Hst
  iintro ⟨Hst, HB⟩
  iapply (stepA_step m ρ K κ c 0 (by omega) _ _ _ rfl rfl rfl) $$ [Hst]
  · isplitr; · iexact Hsh
    iexact Hst
  iintro Hst
  iapply (stepA_step m ρ K κ c 1 (by omega) _ _ _ rfl rfl rfl) $$ [Hst]
  · isplitr; · iexact Hsh
    iexact Hst
  iintro Hst
  iapply (stepB_step m ρ K κ c 2 (by omega) (by omega) _ _ _ rfl rfl rfl) $$ [Hst]
  · isplitr; · iexact Hsh
    iexact Hst
  iintro Hst
  iapply (stepB_step m ρ K κ c 3 (by omega) (by omega) _ _ _ rfl rfl rfl) $$ [Hst]
  · isplitr; · iexact Hsh
    iexact Hst
  iintro Hst
  iapply (stepB_step m ρ K κ c 4 (by omega) (by omega) _ _ _ rfl rfl rfl) $$ [Hst]
  · isplitr; · iexact Hsh
    iexact Hst
  iintro Hst
  iapply (stepB_step m ρ K κ c 5 (by omega) (by omega) _ _ _ rfl rfl rfl) $$ [Hst]
  · isplitr; · iexact Hsh
    iexact Hst
  iintro Hst
  iapply (stepB_step m ρ K κ c 6 (by omega) (by omega) _ _ _ rfl rfl rfl) $$ [Hst]
  · isplitr; · iexact Hsh
    iexact Hst
  iintro Hst
  iapply (stepB_step m ρ K κ c 7 (by omega) (by omega) _ _ _ rfl rfl rfl) $$ [Hst]
  · isplitr; · iexact Hsh
    iexact Hst
  iintro Hst
  iapply (stepB_step m ρ K κ c 8 (by omega) (by omega) _ _ _ rfl rfl rfl) $$ [Hst]
  · isplitr; · iexact Hsh
    iexact Hst
  iintro Hst
  iapply (stepB_step m ρ K κ c 9 (by omega) (by omega) _ _ _ rfl rfl rfl) $$ [Hst]
  · isplitr; · iexact Hsh
    iexact Hst
  iintro Hst
  iapply (stepB_step m ρ K κ c 10 (by omega) (by omega) _ _ _ rfl rfl rfl) $$ [Hst]
  · isplitr; · iexact Hsh
    iexact Hst
  iintro Hst
  iapply (stepB_step m ρ K κ c 11 (by omega) (by omega) _ _ _ rfl rfl rfl) $$ [Hst]
  · isplitr; · iexact Hsh
    iexact Hst
  iintro Hst
  iapply (stepB_step m ρ K κ c 12 (by omega) (by omega) _ _ _ rfl rfl rfl) $$ [Hst]
  · isplitr; · iexact Hsh
    iexact Hst
  iintro Hst
  iapply (stepC_step m ρ K κ c _ _ _ rfl rfl rfl) $$ [Hst]
  · isplitr; · iexact Hsh
    iexact Hst
  iintro Hst
  iapply (wp_fupd _ _ _ (stepD c 0) Q)
  iapply (stepD_step m ρ K κ c) $$ [Hst Ho]
  · isplitr; · iexact Hsh
    isplitl [Hst]; · iexact Hst
    iexact Ho
  iintro Hdone
  imod (close_all m ρ K κ c) $$ [Hdone HB] with Hcl
  · isplitr; · iexact Hsh
    isplitl [Hdone]; · iexact Hdone
    iexact HB
  imodintro
  iapply Hk; iexact Hcl

end Cert.KernelIdeal.Ring

end
-- ==== Proof.KI.Dats.lean ====
/-
  The call as the launch sees it: what the staging buffers hold before and
  after, what a device owes, what it is given besides the buffers, and the
  body's obligation.
-/
module

public import proofs.«01_k».proof.Proof.KI.Body
public import proofs.«01_k».proof.Proof.Gen.KernelIdeal.Launch
public import proofs.«01_k».proof.Proof.Gen.KernelIdeal.Points

@[expose] public section

set_option maxRecDepth 10000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- What a device holds at the start besides buffers, debts and credits. -/
def held (c : Dev nD) : sProp 𝕄 :=
  iprop((Release.readerAt EK (c, 0) 0 ∗ Release.readerAt EK (c, 1) 0)
    ∗ (atPos ER (barCell c) 0 ∅ 0 ∗ atPos ER (crCell c) 0 ∅ 0
      ∗ (atPos ER (sCell c 0) 0 ∅ 0 ∗ atPos ER (sCell c 1) 0 ∅ 0) ∗ (atPos ER (rCell c 0) 0 ∅ 0 ∗ atPos ER (rCell c 1) 0 ∅ 0))
    ∗ (dutyTok ER (barCell (prv c)) 0 1 ∗ dutyTok ER (barCell (nxt c)) 0 0)
    ∗ bigSep (Finset.Ico 0 15) (fun i => dutyTok ER (sCell c (sl i)) (i / 2) 0)
    ∗ bigSep (Finset.Ico 0 15) (fun i => dutyTok ER (rCell (nxt c) (sl i)) (i / 2) 0)
    ∗ bigSep (Finset.Ico 0 15) (fun i => Release.writeTok EK (nxt c, sl i) (i / 2 + 1))
    ∗ bigSep (Finset.Ico 0 15) (fun i => tokC c i))

/-- The credits a device is given at the launch. -/
def credits (c : Dev nD) : sProp 𝕄 :=
  iprop(cred (tallyAt (barCell c) 0 2) ∗ bigSep (Finset.Ico 0 15) (fun i => cred (tallyAt (rCell c (sl i)) i N))
    ∗ bigSep (Finset.Ico 0 15) (fun i => tokW c i))

/-- What the body starts from besides the buffers. -/
def start (c : Dev nD) : sProp 𝕄 := iprop(∃ K κ, shared m ρ K κ ∗ held c ∗ credits c)

omit [FloatOps F] in
/-- The tokens of the steps, gathered step by step. -/
theorem toks_gather (c : Dev nD) :
    iprop(bigSep (Finset.Ico 0 15) (fun i => dutyTok ER (sCell c (sl i)) (i / 2) 0)
        ∗ bigSep (Finset.Ico 0 15) (fun i => dutyTok ER (rCell (nxt c) (sl i)) (i / 2) 0)
        ∗ bigSep (Finset.Ico 0 15) (fun i => Release.writeTok EK (nxt c, sl i) (i / 2 + 1))
        ∗ bigSep (Finset.Ico 0 15) (fun i => cred (tallyAt (rCell c (sl i)) i N))
        ∗ bigSep (Finset.Ico 0 15) (fun i => tokC c i) ∗ bigSep (Finset.Ico 0 15) (fun i => tokW c i))
      ⊢ (bigSep (Finset.Ico 0 15) (fun i => toks c i) : sProp 𝕄) := by
  unfold toks tokX
  simp only [bigSep_sep']
  iintro ⟨H1, H2, H3, H4, H5, H6⟩
  isplitl [H1 H2 H3 H4]
  · isplitl [H1]; · iexact H1
    isplitl [H2]; · iexact H2
    isplitl [H3]; · iexact H3
    iexact H4
  isplitl [H5]; · iexact H5
  iexact H6

/-- The two scratch buffers. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What device `c` holds of the ring when the call starts, besides the windows. -/
def Φ₀ (c : Dev nD) : sProp 𝕄 := iprop(start m ρ c ∗ scratches c)
/-- What it holds when the call ends: the scratch buffers, and every semaphore at zero. -/
def Φ₁ (c : Dev nD) : sProp 𝕄 :=
  iprop(scratches c ∗ semVal (barCell c) 0 ∗ semVal (sCell c 0) 0 ∗ semVal (sCell c 1) 0 ∗ semVal (rCell c 0) 0 ∗ semVal (rCell c 1) 0 ∗ semVal (crCell c) 0)

/-- The call on device `c`. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outv m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- A whole buffer owned at contents `X`. -/
theorem owns_buffer (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Buffer `b` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: `Φ₀`, its debts, and the three staging buffers. -/
def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What the body ends with: `Φ₁`, no debt, and the staging buffers with the result stored. -/
def bodyPost (c : Dev nD) : sProp 𝕄 :=
  iprop(Φ₁ c ∗ (dats m ρ 0 c).owesAt 0 t0_0.succ ∗ stg c cc0_stg0_0 (xstg m ρ c) ∗ stg c cc0_stg1_0 (wstg m ρ c)
    ∗ stg c cc0_stg2_0 (outv m ρ c))

/-- The body finds device `c`'s first argument staged. -/
theorem before_x (c : Dev nD) (d) : (dats m ρ 0 c).before (0 : Fin 3) t0_0 d = xstg m ρ c := by
  unfold Dat.before; rw [if_pos (fetch0_0 t0_0)]; rfl
/-- The body finds device `c`'s second argument staged. -/
theorem before_w (c : Dev nD) (d) : (dats m ρ 0 c).before (1 : Fin 3) t0_0 d = wstg m ρ c := by
  unfold Dat.before; rw [if_pos (fetch0_1 t0_0)]; rfl

/-- The body takes what the launch gives to what the launch wants back. -/
theorem body_run (c : Dev nD) : bodyPre m ρ c ⊢ run c ring (fun _ => bodyPost m ρ c) := by
  unfold bodyPre Φ₀ start scratches held credits
  iintro ⟨⟨⟨%K, %κ, #Hsh, ⟨Hrd, Hat, HtB, Ht1, Ht2, Ht3, Ht5⟩, HcB, Ht4, Ht6⟩, Hs, Hr⟩, Ho, ⟨%d0, %g0, %hg0, Hx⟩, ⟨%d1, %g1, %hg1, Hw⟩, ⟨%d2, %g2, %hg2, Hout⟩⟩
  rw [before_x] at hg0; rw [before_w] at hg1
  subst hg0; subst hg1
  unfold Dat.owesAt Pipeline.owesWithin
  icases Ho with ⟨%W, %hW, HO⟩
  rw [show (dats m ρ 0 c).owed t0_0.castSucc = O₀ c from rfl]
  icases Hat with ⟨HatB, HatC, HatS, HatR⟩
  icases HtB with ⟨HtP, HtN⟩
  ihave Ht := (toks_gather (F := F) c) $$ [Ht1 Ht2 Ht3 Ht4 Ht5 Ht6]
  · isplitl [Ht1]; · iexact Ht1
    isplitl [Ht2]; · iexact Ht2
    isplitl [Ht3]; · iexact Ht3
    isplitl [Ht4]; · iexact Ht4
    isplitl [Ht5]; · iexact Ht5
    iexact Ht6
  iapply (ring_step m ρ K κ c (fun _ => bodyPost m ρ c)) $$ [HO Hx Hw Hs Hr Hrd HatB HatC HatS HatR HtP HtN HcB Ht Hout]
  · isplitr; · iexact Hsh
    isplitr [Hout]; swap
    · iexists g2; unfold oH; iexact Hout
    unfold Start owe xH wH
    isplitl [HO]; · iexists W; iexact HO
    isplitl [Hx]; · iexact Hx
    isplitl [Hw]; · iexact Hw
    isplitl [Hs]; · iexact Hs
    isplitl [Hr]; · iexact Hr
    isplitl [Hrd]; · iexact Hrd
    isplitl [HatB]; · iexact HatB
    isplitl [HatC]; · iexact HatC
    isplitl [HatS]; · iexact HatS
    isplitl [HatR]; · iexact HatR
    isplitl [HtP HtN HcB]
    · isplitl [HtP]; · iexact HtP
      isplitl [HtN]; · iexact HtN
      iexact HcB
    iexact Ht
  unfold Closed owe xH wH oH bodyPost Φ₁ scratches
  iintro ⟨⟨%W', HO⟩, Hx, Hw, Hout, ⟨⟨%Y0, Hs0⟩, ⟨%Y1, Hs1⟩⟩, ⟨Hr0, Hr1⟩, Hz⟩
  isplitl [Hs0 Hs1 Hr0 Hr1 Hz]
  · isplitl [Hs0 Hs1 Hr0 Hr1]
    · isplitl [Hs0 Hs1]
      · iapply (s_join c Y0 Y1)
        isplitl [Hs0]; · iexact Hs0
        iexact Hs1
      · iapply (r_join (F := F) c)
        isplitl [Hr0]; · iexact Hr0
        iexact Hr1
    iexact Hz
  isplitl [HO]
  · unfold Dat.owesAt Pipeline.owesWithin
    rw [show (dats m ρ 0 c).owed t0_0.succ = 0 from rfl]
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The body's obligation on device `c`. -/
theorem body_obligation (c : Dev nD) : BodyObligation (dats (F := F) m ρ 0 c) (defs₀ (F := F)) 𝒱₀ 0 Set.univ := fun t => by
  rw [fin_N0 t]
  rw [show (Finset.univ : Finset (Fin cfg0.W)) = (Finset.univ : Finset (Fin 3)) from rfl]
  rw [bigSep_W0, bigSep_W0]
  simp only [owns_buffer]
  show bodyPre m ρ c ⊢ run c body (fun _ => bodyPost m ρ c)
  rw [body_eq]
  exact body_run m ρ c

end Cert.KernelIdeal.Ring

end
-- ==== Proof.KI.Deal.lean ====
/-
  What the launch deals: the rounds of the ring's cells with their duty
  tokens, the slots' records with their write tokens, and the credits, each
  handed to the device that uses it.
-/
module

public import proofs.«01_k».proof.Proof.KI.Dats
public import Idealize.SL.BI.BigOpNat

@[expose] public section

set_option maxRecDepth 10000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Sums over pairs -/

omit [FloatOps F] in
/-- A separating product over pairs, first coordinate first. -/
theorem over_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, bigSep_empty, bigSep_empty]
  | insert a s ha ih =>
    have hd : Disjoint (t.map ⟨fun j => (a, j), fun _ _ h => congrArg Prod.snd h⟩) (s ×ˢ t) := by
      rw [Finset.disjoint_left]
      intro x h1 h2
      obtain ⟨j, -, rfl⟩ := Finset.mem_map.mp h1
      exact ha (Finset.mem_product.mp h2).1
    have he : insert a s ×ˢ t = t.map ⟨fun j => (a, j), fun _ _ h => congrArg Prod.snd h⟩ ∪ (s ×ˢ t) := by
      ext ⟨i, j⟩
      simp only [Finset.mem_product, Finset.mem_insert, Finset.mem_union, Finset.mem_map, Function.Embedding.coeFn_mk, Prod.mk.injEq]
      constructor
      · rintro ⟨rfl | h, hj⟩
        · exact .inl ⟨j, hj, rfl⟩
        · exact .inr ⟨h, hj⟩
      · rintro (⟨k, hk, rfl, rfl⟩ | ⟨h, hj⟩)
        · exact ⟨.inl rfl, hk⟩
        · exact ⟨.inr h, hj⟩
    rw [he, bigSep_union hd, bigSep_map, ih, bigSep_insert ha]
    rfl

/-! ## The duties' tokens -/

/-- Different devices or numbers name different semaphores. -/
theorem kcell_injective : Function.Injective (kcell : Dev nD × Fin 6 → GSem nD τ sig) := by
  rintro ⟨c, k⟩ ⟨c', k'⟩ h
  have h1 : c = c' := congrArg (fun g : GSem nD τ sig => g.1.1) h
  have h2 : csem k = csem k' := congrArg Prod.snd h
  have h3 : k = k' := by clear h h1; revert k k'; decide
  rw [h1, h3]

/-- A token of one device's cell: the cell's semaphore, the round and the duty. -/
abbrev Key : Type := GSem nD τ sig × ℕ × ℕ

/-- The keys of the barrier's duties, the credits', the sends' and the receives'. -/
def keyB (x : Dev nD × ℕ) : Key := (barCell x.1, 0, x.2)
/-- The key of credit `x.2` on device `x.1`. -/
def keyC (x : Dev nD × ℕ) : Key := (crCell x.1, 0, x.2)
/-- The key of the send of step `x.2` on device `x.1`. -/
def keyS (x : Dev nD × ℕ) : Key := (sCell x.1 (sl x.2), x.2 / 2, 0)
/-- The key of the arrival of step `x.2` on device `x.1`. -/
def keyR (x : Dev nD × ℕ) : Key := (rCell x.1 (sl x.2), x.2 / 2, 0)

/-- Equal semaphores lie on the same device. -/
theorem dev_of {g g' : GSem nD τ sig} (h : g = g') : g.1.1 = g'.1.1 := congrArg (fun g : GSem nD τ sig => g.1.1) h

/-- A step is told by its slot and its round. -/
theorem step_inj {i j : ℕ} (h1 : sl i = sl j) (h2 : i / 2 = j / 2) : i = j := by
  rw [← two_div i, ← two_div j, h1, h2]

/-- Different barrier duties have different keys. -/
theorem keyB_inj : Function.Injective keyB := fun x y h => Prod.ext (dev_of (congrArg Prod.fst h)) (congrArg (fun k : Key => k.2.2) h)
/-- Different credits have different keys. -/
theorem keyC_inj : Function.Injective keyC := fun x y h => Prod.ext (dev_of (congrArg Prod.fst h)) (congrArg (fun k : Key => k.2.2) h)
/-- Different sends have different keys. -/
theorem keyS_inj : Function.Injective keyS := fun x y h =>
  Prod.ext (dev_of (congrArg Prod.fst h)) (step_inj (s_inj (congrArg (fun k : Key => k.1.2) h)) (congrArg (fun k : Key => k.2.1) h))
/-- Different arrivals have different keys. -/
theorem keyR_inj : Function.Injective keyR := fun x y h =>
  Prod.ext (dev_of (congrArg Prod.fst h)) (step_inj (r_inj (congrArg (fun k : Key => k.1.2) h)) (congrArg (fun k : Key => k.2.1) h))

/-- All devices with the numbers below `n`. -/
def devs (n : ℕ) : Finset (Dev nD × ℕ) := Finset.univ ×ˢ Finset.Ico 0 n

/-- The barrier's tokens on all devices. -/
def toksB : Finset Key := (devs 2).map ⟨keyB, keyB_inj⟩
/-- The credits' tokens on all devices. -/
def toksC : Finset Key := (devs 13).map ⟨keyC, keyC_inj⟩
/-- The sends' tokens on all devices. -/
def toksS : Finset Key := (devs 15).map ⟨keyS, keyS_inj⟩
/-- The arrivals' tokens on all devices. -/
def toksR : Finset Key := (devs 15).map ⟨keyR, keyR_inj⟩

/-- Tokens of different semaphores are different. -/
theorem keys_disjoint {A B : Finset (Dev nD × ℕ)} {f g : Dev nD × ℕ ↪ Key} (h : ∀ x y, (f x).1.2 ≠ (g y).1.2) : Disjoint (A.map f) (B.map g) := by
  rw [Finset.disjoint_left]
  intro k h1 h2
  obtain ⟨x, -, rfl⟩ := Finset.mem_map.mp h1
  obtain ⟨y, -, hy⟩ := Finset.mem_map.mp h2
  exact h x y (congrArg (fun k : Key => k.1.2) hy.symm)

/-- The barrier's tokens are none of the others. -/
theorem dis_B : Disjoint toksB (toksC ∪ (toksS ∪ toksR)) := by
  refine Finset.disjoint_union_right.mpr ⟨?_, Finset.disjoint_union_right.mpr ⟨?_, ?_⟩⟩
  · exact keys_disjoint fun x y h => cr_ne_bar h.symm
  · exact keys_disjoint fun x y h => s_ne_reg _ _ h.symm
  · exact keys_disjoint fun x y h => r_ne_reg _ _ h.symm
/-- The credits' tokens are none of the transfers'. -/
theorem dis_C : Disjoint toksC (toksS ∪ toksR) := by
  refine Finset.disjoint_union_right.mpr ⟨?_, ?_⟩
  · exact keys_disjoint fun x y h => s_ne_reg _ _ h.symm
  · exact keys_disjoint fun x y h => r_ne_reg _ _ h.symm
/-- The sends' tokens are none of the arrivals'. -/
theorem dis_S : Disjoint toksS toksR := keys_disjoint fun x y h => r_ne_s _ _ h.symm

/-- The ring's semaphores on all devices. -/
def ringCells : Finset (GSem nD τ sig) := Finset.univ.map ⟨kcell, kcell_injective⟩
/-- All the tokens of the ring. -/
def ringToks : Finset Key := toksB ∪ (toksC ∪ (toksS ∪ toksR))

omit [FloatOps F] in
/-- Tokens of one kind, device by device. -/
theorem toks_by_device (n : ℕ) (f : Dev nD × ℕ ↪ Key) (Φ : Key → sProp 𝕄) :
    bigSep ((devs n).map f) Φ = bigSep Finset.univ fun c : Dev nD => bigSep (Finset.Ico 0 n) fun i => Φ (f (c, i)) := by
  rw [bigSep_map]; unfold devs; rw [over_pairs]

/-- The tokens of the duties on device `c`'s own cells. -/
def minted (c : Dev nD) : sProp 𝕄 :=
  iprop(bigSep (Finset.Ico 0 2) (fun j => dutyTok ER (barCell c) 0 j)
    ∗ bigSep (Finset.Ico 0 13) (fun j => dutyTok ER (crCell c) 0 j)
    ∗ bigSep (Finset.Ico 0 15) (fun i => dutyTok ER (sCell c (sl i)) (i / 2) 0)
    ∗ bigSep (Finset.Ico 0 15) (fun i => dutyTok ER (rCell c (sl i)) (i / 2) 0))

omit [FloatOps F] in
/-- All the tokens of the ring, device by device. -/
theorem minted_eq : bigSep ringToks (fun x => (dutyTok ER x.1 x.2.1 x.2.2 : sProp 𝕄)) = bigSep Finset.univ fun c : Dev nD => minted c := by
  unfold minted
  simp only [bigSep_sep']
  unfold ringToks
  rw [bigSep_union dis_B, bigSep_union dis_C, bigSep_union dis_S]
  unfold toksB toksC toksS toksR
  rw [toks_by_device, toks_by_device, toks_by_device, toks_by_device]
  rfl

/-! ## The slots' write tokens -/

/-- The write that step `i` of device `c` makes. -/
def slotOf (x : Dev nD × ℕ) : (Dev nD × Fin 2) × ℕ := ((x.1, sl x.2), x.2 / 2)

/-- Different steps make different writes. -/
theorem slotOf_inj : Function.Injective slotOf := fun x y h =>
  Prod.ext (congrArg (fun k : (Dev nD × Fin 2) × ℕ => k.1.1) h)
    (step_inj (congrArg (fun k : (Dev nD × Fin 2) × ℕ => k.1.2) h) (congrArg (fun k : (Dev nD × Fin 2) × ℕ => k.2) h))

omit [FloatOps F] in
/-- A product over all writes, device by device and step by step. -/
theorem toks_slots (Φ : (Dev nD × Fin 2) × ℕ → sProp 𝕄) :
    bigSep ((devs 15).map ⟨slotOf, slotOf_inj⟩) Φ = bigSep Finset.univ fun c : Dev nD => bigSep (Finset.Ico 0 15) fun i => Φ ((c, sl i), i / 2) := by
  rw [bigSep_map]; unfold devs; rw [over_pairs]; rfl

omit [FloatOps F] in
/-- The write tokens of every slot, device by device and step by step. -/
theorem writes_by_device :
    bigSep ((Finset.univ : Finset (Dev nD × Fin 2)) ×ˢ Finset.range 8) (fun x => (Release.writeTok EK x.1 (x.2 + 1) : sProp 𝕄))
      ⊢ bigSep Finset.univ fun c : Dev nD => bigSep (Finset.Ico 0 15) fun i => Release.writeTok EK (c, sl i) (i / 2 + 1) := by
  have hs : (devs 15).map ⟨slotOf, slotOf_inj⟩ ⊆ (Finset.univ : Finset (Dev nD × Fin 2)) ×ˢ Finset.range 8 := by
    intro k hk
    obtain ⟨⟨c, i⟩, hi, rfl⟩ := Finset.mem_map.mp hk
    have := (Finset.mem_Ico.mp (Finset.mem_product.mp hi).2).2
    refine Finset.mem_product.mpr ⟨Finset.mem_univ _, Finset.mem_range.mpr ?_⟩
    show i / 2 < 8
    omega
  have h1 := bigSep_subset (Φ := fun x : (Dev nD × Fin 2) × ℕ => (Release.writeTok EK x.1 (x.2 + 1) : sProp 𝕄)) hs
  rw [toks_slots] at h1
  exact h1

/-! ## The credits -/

omit [FloatOps F] in
/-- The thirteen credits that a device gives, spread over the fifteen steps. -/
theorem tokC_sum (c : Dev nD) : bigSep (Finset.Ico 0 13) (fun j => (dutyTok ER (crCell (prv c)) 0 j : sProp 𝕄)) ⊢ bigSep (Finset.Ico 0 15) (fun i => tokC c i) := by
  rw [bigSep_Ico_succ_top (by omega) (fun i => (tokC c i : sProp 𝕄)), bigSep_Ico_succ_top (by omega) (fun i => (tokC c i : sProp 𝕄))]
  have h : bigSep (Finset.Ico 0 13) (fun j => (dutyTok ER (crCell (prv c)) 0 j : sProp 𝕄)) = bigSep (Finset.Ico 0 13) (fun i => tokC c i) :=
    bigSep_congr fun i hi => by unfold tokC; rw [if_pos (Finset.mem_Ico.mp hi).2]
  rw [h]
  iintro H
  isplitr
  · unfold tokC; rw [if_neg (by omega)]; iempintro
  isplitr
  · unfold tokC; rw [if_neg (by omega)]; iempintro
  iexact H

omit [FloatOps F] in
/-- The thirteen credits that a device waits for, spread over the fifteen steps. -/
theorem tokW_sum (c : Dev nD) : bigSep (Finset.Ico 0 13) (fun j => (cred (tallyAt (crCell c) j 1) : sProp 𝕄)) ⊢ bigSep (Finset.Ico 0 15) (fun i => tokW c i) := by
  rw [bigSep_Ico_succ_bot (by omega) (fun i => (tokW c i : sProp 𝕄)), bigSep_Ico_succ_bot (by omega) (fun i => (tokW c i : sProp 𝕄))]
  have h : bigSep (Finset.Ico (0 + 1 + 1) 15) (fun i => (tokW c i : sProp 𝕄)) = bigSep (Finset.Ico 0 13) (fun j => (cred (tallyAt (crCell c) j 1) : sProp 𝕄)) := by
    have hm : Finset.Ico (0 + 1 + 1) 15 = (Finset.Ico 0 13).map ⟨fun i => i + 2, fun _ _ h => Nat.add_right_cancel h⟩ := by decide
    rw [hm, bigSep_map]
    exact bigSep_congr fun i hi => by
      show tokW c (i + 2) = _
      unfold tokW; rw [if_pos (by omega)]; rfl
  rw [h]
  iintro H
  isplitr
  · unfold tokW; rw [if_neg (by omega)]; iempintro
  isplitr
  · unfold tokW; rw [if_neg (by omega)]; iempintro
  iexact H

omit [FloatOps F] in
/-- What the right neighbour owes at its step `i` is the credit that device `c` waits for. -/
theorem cred_C (c : Dev nD) (i : ℕ) (hi : i < 13) : (Pipeline.launchCred (fun d => dueC' d i) c : sProp 𝕄) ⊢ cred (tallyAt (crCell c) i 1) := by
  rw [show (fun d : Dev nD => dueC' d i) = fun d => tallyAt (((prv d).tc : Thread nD τ), .reg crSem) i 1 from funext fun d => if_pos hi]
  exact Pipeline.launchCred_tallyAt _ prv nxt prv_nxt nxt_prv i 1 c
omit [FloatOps F] in
/-- What the left neighbour owes at its step `i` is the arrival that device `c` waits for. -/
theorem cred_R (c : Dev nD) (i : ℕ) : (Pipeline.launchCred (fun d => dueR d i) c : sProp 𝕄) ⊢ cred (tallyAt (rCell c (sl i)) i N) :=
  Pipeline.launchCred_tallyAt _ nxt prv nxt_prv prv_nxt i N c

omit [FloatOps F] in
/-- A device's debts: its credits, and its transfers. -/
theorem Os_split (d : Dev nD) : Os d 0 = (∑ i ∈ Finset.Ico 0 15, dueC' d i) + ∑ i ∈ Finset.Ico 0 15, dueR d i := by
  unfold Os; rw [Finset.sum_add_distrib]

omit [FloatOps F] in
/-- What the neighbours owe device `c` is what it waits for. -/
theorem creds (c : Dev nD) : (Pipeline.launchCred O₀ c : sProp 𝕄) ⊢ credits c := by
  rw [show (O₀ : Dev nD → CellTallies nD τ sig ℕ)
      = fun d => ((((∑ i ∈ Finset.Ico 0 15, dueC' d i) + ∑ i ∈ Finset.Ico 0 15, dueR d i) + tallyAt (((nxt d).tc : Thread nD τ), .reg barSem) 0 1)
          + tallyAt (((prv d).tc : Thread nD τ), .reg barSem) 0 1) from funext fun d => by unfold O₀; rw [Os_split]]
  rw [Pipeline.launchCred_add, Pipeline.launchCred_add, Pipeline.launchCred_add, Pipeline.launchCred_sum (Finset.Ico 0 15) (fun i d => dueC' d i),
    Pipeline.launchCred_sum (Finset.Ico 0 15) (fun i d => dueR d i)]
  unfold credits
  have hb : iprop(cred (tallyAt (barCell c) 0 1) ∗ cred (tallyAt (barCell c) 0 1)) ⊢ (cred (tallyAt (barCell c) 0 2) : sProp 𝕄) := by
    rw [show (tallyAt (barCell c) 0 2 : CellTallies nD τ sig ℕ) = tallyAt (barCell c) 0 1 + tallyAt (barCell c) 0 1 from (tallyAt_add (barCell c) 0 1 1).symm]
    exact (cred_add _ _).2
  have hr : (bigSep (Finset.Ico 0 15) fun i => Pipeline.launchCred (fun d => dueR d i) c) ⊢ (bigSep (Finset.Ico 0 15) fun i => cred (tallyAt (rCell c (sl i)) i N) : sProp 𝕄) :=
    bigSep_mono fun i _ => cred_R c i
  have hc : (bigSep (Finset.Ico 0 15) fun i => Pipeline.launchCred (fun d => dueC' d i) c) ⊢ (bigSep (Finset.Ico 0 15) fun i => tokW c i : sProp 𝕄) :=
    BI.Entails.trans (BI.Entails.trans (bigSep_subset (t := Finset.Ico 0 13) (Finset.Ico_subset_Ico_right (by omega)))
      (bigSep_mono fun i hi => cred_C c i (Finset.mem_Ico.mp hi).2)) (tokW_sum c)
  iintro ⟨⟨⟨HC, HR⟩, HN⟩, HP⟩
  isplitl [HN HP]
  · iapply hb
    isplitl [HN]
    · iapply (Pipeline.launchCred_tallyAt (SemLoc.reg barSem) nxt prv nxt_prv prv_nxt 0 1 c); iexact HN
    · iapply (Pipeline.launchCred_tallyAt (SemLoc.reg barSem) prv nxt prv_nxt nxt_prv 0 1 c); iexact HP
  isplitl [HR]
  · iapply hr; iexact HR
  · iapply hc; iexact HC

end Cert.KernelIdeal.Ring

end
-- ==== Proof.KI.Launch.lean ====
/-
  The launch: every device's rounds and slots are set up, what each device
  needs is handed to it, and the whole program runs to its end.
-/
module

public import proofs.«01_k».proof.Proof.KI.Deal
public import Idealize.ShloMosaic.Lib.Pipeline.CollectiveSegs

@[expose] public section

set_option maxRecDepth 10000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The kernel's own semaphores. -/
def osem (k : Fin 5) : SemLoc sig := csem k.succ

/-- The call's own semaphores are the ones listed. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

/-- What the launch starts the ghost state with. -/
def u₀ : UU :=
  (initOf (Pipeline.cells cfgs cellOf_inj) (Pipeline.launchToks cfgs cellOf_inj),
    (initOf ringCells ringToks, Release.initSlots (Finset.univ : Finset (Dev nD × Fin 2)) 8))

/-- The slots' launch element. -/
def slots₀ : sProp 𝕄 := BI.own (EK (Release.initSlots (Finset.univ : Finset (Dev nD × Fin 2)) 8))

/-- The slots' launch element lies with device 0 until it is dealt. -/
def slotsAt (c : Dev nD) : sProp 𝕄 := if c = 0 then slots₀ else iprop(emp)

/-- What the launch deals device `c` before the semaphores are given their meaning. -/
def G (c : Dev nD) : sProp 𝕄 :=
  iprop(slotsAt c ∗ (bigSep Finset.univ fun k : Fin 6 => roundState ER (Rd m ρ) (kcell (c, k)) 0)
    ∗ (bigSep Finset.univ fun k : Fin 6 => iprop(atPos ER (kcell (c, k)) 0 ∅ 0 ∗ reached ER (kcell (c, k)) 0)) ∗ minted c)

/-- The invariants of every cell and every slot. -/
def records (K : Dev nD × Fin 6 → ℕ) (κ : Dev nD × Fin 2 → ℕ) : sProp 𝕄 :=
  iprop(bigSep Finset.univ (fun x : Dev nD × Fin 6 => iprop(cellInv ER (Rd m ρ) (K x) (kcell x) ∗ reached ER (kcell x) 0))
    ∗ bigSep Finset.univ (fun x : Dev nD × Fin 2 => Release.slotInv EK (κ x) x (rSlotAny x.1 x.2)))

/-- The invariants may be used again and again. -/
instance records_persistent (K : Dev nD × Fin 6 → ℕ) (κ : Dev nD × Fin 2 → ℕ) : BI.Persistent (records (F := F) m ρ K κ) := by unfold records; infer_instance

/-- And after. -/
def G' (c : Dev nD) : sProp 𝕄 := iprop(∃ K κ, records m ρ K κ ∗ held c)

omit [FloatOps F] in
/-- The slots' launch element, laid with device 0. -/
theorem slots_apart : (slots₀ : sProp 𝕄) ⊢ bigSep Finset.univ fun c : Dev nD => slotsAt c := by
  rw [bigSep_univ_at _ (0 : Dev nD)]
  have h : (bigSep (Finset.univ.erase (0 : Dev nD)) fun c : Dev nD => (slotsAt c : sProp 𝕄)) = iprop(emp) := by
    rw [bigSep_congr (Φ := fun c : Dev nD => (slotsAt c : sProp 𝕄)) (Ψ := fun _ => (iprop(emp) : sProp 𝕄)) fun c hc => if_neg (Finset.mem_erase.mp hc).1]
    exact BI.bigSep_emp_const _
  rw [h]
  unfold slotsAt; rw [if_pos rfl]
  iintro H
  isplitl; · iexact H
  iempintro

omit [FloatOps F] in
/-- The slots' launch element, taken back from device 0. -/
theorem slots_back : (bigSep Finset.univ fun c : Dev nD => (slotsAt c : sProp 𝕄)) ⊢ slots₀ := by
  have h : (bigSep Finset.univ fun c : Dev nD => (slotsAt c : sProp 𝕄)) ⊢ slotsAt 0 := bigSep_elim (Finset.mem_univ (0 : Dev nD))
  unfold slotsAt at h ⊢; rw [if_pos rfl] at h; exact h

omit [FloatOps F] in
/-- A separating product over the six cells, device by device. -/
theorem over_cells (Φ : GSem nD τ sig → sProp 𝕄) :
    bigSep ringCells Φ = bigSep Finset.univ fun c : Dev nD => bigSep Finset.univ fun k : Fin 6 => Φ (kcell (c, k)) := by
  unfold ringCells; rw [bigSep_map, bigSep_univ_prod]; rfl

/-- The launch element, dealt. -/
theorem fund : BI.own (EX (initOf ringCells ringToks, Release.initSlots (Finset.univ : Finset (Dev nD × Fin 2)) 8))
    ⊢ (|==> bigSep Finset.univ (G m ρ) : sProp 𝕄) := by
  iintro HX
  ihave HX := (own_pair_emb EX _ _) $$ HX
  icases HX with ⟨HR, HK⟩
  imod (Rounds.fund ER (Rd m ρ) ringCells ringToks) $$ HR with ⟨Hst, Hr, Hat, Htok⟩
  imodintro
  ihave Hst' := (Entails.of_eq (over_cells fun g => roundState ER (Rd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq (minted_eq (F := F))) $$ Htok
  unfold G; simp only [bigSep_sep']
  isplitl [HK]; · iapply (slots_apart (F := F)); unfold slots₀; iexact HK
  isplitl [Hst']; · iexact Hst'
  isplitl [Hat' Hr']
  · isplitl [Hat'] <;> iassumption
  iexact Htok'

/-! ## The semaphores -/

omit [FloatOps F] in
/-- A product over six numbers, written out. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- The call's own semaphores at zero, written out. -/
theorem ownSems0_eq (c : Dev nD) : (Pipeline.ownSems0 (Ix := ℕ) (Name := ℕ) (U := UU) (Lvl := ℕ) (Val := Elt F) (τ := τ) osem c : sProp 𝕄)
    = iprop(semVal (sCell c 0) 0 ∗ semVal (sCell c 1) 0 ∗ semVal (rCell c 0) 0 ∗ semVal (rCell c 1) 0 ∗ semVal (crCell c) 0) := by
  rw [Pipeline.ownSems0_eq_of_list c osem [0, 1, 2, 3, 4] (by decide) (by decide)]; rfl
omit [FloatOps F] in
/-- The one semaphore that is not the call's own is the barrier's. -/
theorem unscopedSems0_eq (c : Dev nD) : (unscopedSems0 c : sProp 𝕄) = semVal (barCell c) 0 := by
  unfold unscopedSems0; rw [bigSep_eq_bigSepL_of_eq [SemLoc.reg barSem] (by decide) (by decide)]; rfl

omit [FloatOps F] in
/-- All six semaphores of a device at zero, by number. -/
theorem sems_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, six]
  iintro ⟨⟨H1, H2, H3, H4, H5⟩, HB⟩
  isplitl [HB]; · iexact HB
  isplitl [H1]; · iexact H1
  isplitl [H2]; · iexact H2
  isplitl [H3]; · iexact H3
  isplitl [H4]; · iexact H4
  iexact H5

/-- One device's cells get their invariants. -/
theorem cells_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c ∗ slotsAt c) := by
  unfold G
  iintro ⟨Hos, Hus, Hsl, Hst, Hat, Htok⟩
  ihave Hv := (sems_eq (F := F) c) $$ [Hos Hus]
  · isplitl [Hos] <;> iassumption
  imod (show iprop((bigSep Finset.univ fun k : Fin 6 => semVal (kcell (c, k)) 0) ∗ bigSep Finset.univ fun k : Fin 6 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hsl

/-! ## Handing round -/

/-- The part of `held` that comes from the cells' positions. -/
def positions (c : Dev nD) : sProp 𝕄 := bigSep Finset.univ fun k : Fin 6 => atPos ER (kcell (c, k)) 0 ∅ 0

/-- The tokens device `c` pays with. -/
def paying (c : Dev nD) : sProp 𝕄 :=
  iprop((dutyTok ER (barCell (prv c)) 0 1 ∗ dutyTok ER (barCell (nxt c)) 0 0)
    ∗ bigSep (Finset.Ico 0 15) (fun i => dutyTok ER (sCell c (sl i)) (i / 2) 0)
    ∗ bigSep (Finset.Ico 0 15) (fun i => dutyTok ER (rCell (nxt c) (sl i)) (i / 2) 0)
    ∗ bigSep (Finset.Ico 0 15) (fun i => tokC c i))

omit [FloatOps F] in
/-- The barrier's two tokens, written out. -/
theorem two_duties (c : Dev nD) : bigSep (Finset.Ico 0 2) (fun j => (dutyTok ER (barCell c) 0 j : sProp 𝕄)) = iprop(dutyTok ER (barCell c) 0 0 ∗ dutyTok ER (barCell c) 0 1) := by
  rw [show Finset.Ico 0 2 = insert 0 {1} from by decide, bigSep_insert (by decide), bigSep_singleton]; rfl

omit [FloatOps F] in
/-- The tokens of a device's own cells go to the devices that pay there. -/
theorem paying_deal : (bigSep Finset.univ fun c : Dev nD => (minted c : sProp 𝕄)) ⊢ bigSep Finset.univ fun c : Dev nD => paying c := by
  unfold minted paying
  simp only [two_duties, bigSep_sep']
  rw [bigSep_univ_equiv around (fun c : Dev nD => (dutyTok ER (barCell c) 0 0 : sProp 𝕄)),
    bigSep_univ_equiv around.symm (fun c : Dev nD => (dutyTok ER (barCell c) 0 1 : sProp 𝕄)),
    bigSep_univ_equiv around (fun c : Dev nD => (bigSep (Finset.Ico 0 15) fun i => dutyTok ER (rCell c (sl i)) (i / 2) 0 : sProp 𝕄)),
    bigSep_univ_equiv around.symm (fun c : Dev nD => (bigSep (Finset.Ico 0 13) fun j => dutyTok ER (crCell c) 0 j : sProp 𝕄))]
  iintro ⟨⟨H0, H1⟩, HC, HS, HR⟩
  isplitl [H0 H1]
  · isplitl [H1]; · iexact H1
    iexact H0
  isplitl [HS]; · iexact HS
  isplitl [HR]; · iexact HR
  have h : (bigSep Finset.univ fun c : Dev nD => bigSep (Finset.Ico 0 13) fun j => (dutyTok ER (crCell (prv c)) 0 j : sProp 𝕄))
      ⊢ (bigSep Finset.univ fun c : Dev nD => bigSep (Finset.Ico 0 15) fun i => (tokC c i : sProp 𝕄)) := bigSep_mono fun c _ => tokC_sum c
  iapply h; iexact HC

omit [FloatOps F] in
/-- The write tokens of a device's slots go to the device on its left. -/
theorem writes_deal :
    bigSep ((Finset.univ : Finset (Dev nD × Fin 2)) ×ˢ Finset.range 8) (fun x => (Release.writeTok EK x.1 (x.2 + 1) : sProp 𝕄))
      ⊢ bigSep Finset.univ fun c : Dev nD => bigSep (Finset.Ico 0 15) fun i => Release.writeTok EK (nxt c, sl i) (i / 2 + 1) := by
  have h := writes_by_device (F := F)
  rw [bigSep_univ_equiv around (fun c : Dev nD => (bigSep (Finset.Ico 0 15) fun i => Release.writeTok EK (c, sl i) (i / 2 + 1) : sProp 𝕄))] at h
  exact h

omit [FloatOps F] in
/-- The readers' counts of all slots, device by device. -/
theorem readers_deal : bigSep (Finset.univ : Finset (Dev nD × Fin 2)) (fun k => (Release.readerAt EK k 0 : sProp 𝕄))
    = bigSep Finset.univ fun c : Dev nD => iprop(Release.readerAt EK (c, 0) 0 ∗ Release.readerAt EK (c, 1) 0) := by
  rw [bigSep_univ_prod]
  exact bigSep_congr fun c _ => bigSep_univ_two _

/-- Everything device `c` is handed. -/
def handed (c : Dev nD) : sProp 𝕄 :=
  iprop((Release.readerAt EK (c, 0) 0 ∗ Release.readerAt EK (c, 1) 0) ∗ positions c ∗ paying c
    ∗ bigSep (Finset.Ico 0 15) (fun i => Release.writeTok EK (nxt c, sl i) (i / 2 + 1)))

/-- What a device is handed, with the invariants, is what it holds before the call. -/
theorem handed_held (K : Dev nD × Fin 6 → ℕ) (κ : Dev nD × Fin 2 → ℕ) (c : Dev nD) : iprop(records m ρ K κ ∗ handed c) ⊢ G' m ρ c := by
  unfold G' handed positions paying held
  rw [six]
  iintro ⟨HI, Hrd, ⟨HB, HS0, HS1, HR0, HR1, HC⟩, ⟨HtB, HtS, HtR, HtC⟩, HtW⟩
  iexists K; iexists κ
  isplitl [HI]; · iexact HI
  isplitl [Hrd]; · iexact Hrd
  isplitl [HB HS0 HS1 HR0 HR1 HC]
  · isplitl [HB]; · iexact HB
    isplitl [HC]; · iexact HC
    isplitl [HS0 HS1]
    · isplitl [HS0]; · iexact HS0
      iexact HS1
    isplitl [HR0]; · iexact HR0
    iexact HR1
  isplitl [HtB]; · iexact HtB
  isplitl [HtS]; · iexact HtS
  isplitl [HtR]; · iexact HtR
  isplitl [HtW]; · iexact HtW
  iexact HtC

/-- The cells' and slots' names chosen, everything is handed round. -/
theorem hand_round :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c ∗ slotsAt c) : sProp 𝕄)
      ⊢ |={Set.univ}=> bigSep Finset.univ (G' m ρ) := by
  simp only [bigSep_sep']
  rw [← bigSep_univ_prod (fun ck : Dev nD × Fin 6 => iprop(∃ κ : ℕ, cellInv ER (Rd m ρ) κ (kcell ck))),
    ← bigSep_univ_prod (fun ck : Dev nD × Fin 6 => (reached ER (kcell ck) 0 : sProp 𝕄))]
  iintro ⟨HI, ⟨Hat, HR⟩, Htok, Hsl⟩
  ihave HK := (BI.bigSep_exists_pi Finset.univ (fun (ck : Dev nD × Fin 6) (κ : ℕ) => (cellInv ER (Rd m ρ) κ (kcell ck) : sProp 𝕄))) $$ HI
  icases HK with ⟨%K, HI⟩
  ihave Hpay := (paying_deal (F := F)) $$ Htok
  ihave Hs₀ := (slots_back (F := F)) $$ Hsl
  unfold slots₀
  imod (Release.slots_init EK (Finset.univ : Finset (Dev nD × Fin 2)) 8 (fun x => (rSlotAny x.1 x.2 : sProp 𝕄))) $$ Hs₀ with ⟨%κ, -, Hinv, Hrd, Hwr⟩
  imodintro
  ihave Hrd' := (Entails.of_eq (readers_deal (F := F))) $$ Hrd
  ihave Hwr' := (writes_deal (F := F)) $$ Hwr
  have hg : iprop(records m ρ K κ ∗ bigSep Finset.univ (fun c : Dev nD => handed c)) ⊢ bigSep Finset.univ (G' m ρ) :=
    BI.bigSep_with_persistent (R := records m ρ K κ) fun c _ => handed_held m ρ K κ c
  iapply hg
  isplitl [HI HR Hinv]
  · unfold records
    simp only [bigSep_sep']
    isplitl [HI HR]
    · isplitl [HI]; · iexact HI
      iexact HR
    iexact Hinv
  · unfold handed positions
    simp only [bigSep_sep']
    isplitl [Hrd']; · iexact Hrd'
    isplitl [Hat]; · iexact Hat
    isplitl [Hpay]; · iexact Hpay
    iexact Hwr'

/-- The step all devices take together. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) := by
  have h : (bigSep Finset.univ fun c => iprop(Pipeline.ownSems0 (Ix := ℕ) (Name := ℕ) (U := UU) (Lvl := ℕ) (Val := Elt F) (τ := τ) osem c ∗ unscopedSems0 c ∗ G m ρ c) : sProp 𝕄)
      ⊢ |={Set.univ}=> (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c ∗ slotsAt c) : sProp 𝕄) :=
    (bigSep_mono fun c _ => cells_alloc m ρ c).trans (bigSep_fupd _ _)
  iintro H
  imod h $$ H with H
  iapply (hand_round m ρ); iexact H

/-! ## The launch's side conditions -/

/-- What the launch gives a device is what the call starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' shared records
  iintro ⟨-, Hlev, Hcr, -, ⟨%K, %κ, ⟨H1, H2⟩, Hh⟩⟩
  ihave Hc := (creds (F := F) c) $$ Hcr
  imodintro
  isplitl
  · iexists K; iexists κ
    isplitl [Hlev H1 H2]
    · isplitl [H1]; · iexact H1
      isplitl [H2]; · iexact H2
      iexact Hlev
    isplitl [Hh]; · iexact Hh
    iexact Hc
  · iempintro

/-- With the scratch buffers added it is `Φ₀`. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

/-- `Φ₁` gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratches
  iintro ⟨Hr, HB, Hz⟩
  isplitl [HB]; · iexact HB
  isplitl [Hz]; · iexact Hz
  iexact Hr

/-- The pipeline's own waits are allowed below everything a device owes. -/
theorem waits (c : Dev nD) : (levAts L lv : sProp 𝕄) ⊢ Pipeline.cellsWaits cfgs (dats m ρ) 0 0 c :=
  Pipeline.cellsWaits_intro cfgs (dats m ρ) 0 0 c fun w s t =>
    may_stage c _ (by fin_cases w <;> fin_cases s <;> decide) (by fin_cases w <;> fin_cases s <;> decide) _ (by
      rcases t with ⟨_ | _, ht⟩
      · exact Or.inl rfl
      · exact Or.inr rfl)

/-! ## The run -/

/-- What the array of window `w` holds at the end. -/
def finalA (c : Dev nD) (w : Fin cfg0.W) : Buf (Elt F) ((cfg0.win w).arr.view.loc (c : Thread nD τ)) := (dats m ρ 0 c).arrAt w cfg0.N

/-- Every window's array on every device is at its final contents. -/
def Final : PUnit × MemSt nD τ sig (Elt F) → Prop := fun r =>
  ∀ c : Dev nD, ∀ w : Fin cfg0.W, r.2.mem ((cfg0.win w).arr.view.loc (c : Thread nD τ)) = finalA m ρ c w

/-- From any memory with every counter at zero, the program ends on all sixteen devices, with each window's
    array at its final contents and every counter at zero again. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.KI.Result.lean ====
/-
  What the run leaves in the three arrays: the two arguments as they were, the result as the body's last store.
-/
module

public import proofs.«01_k».proof.Proof.KI.Launch

@[expose] public section

set_option maxRecDepth 10000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The first argument ends as it was. -/
theorem final_x (c : Dev nD) : finalA m ρ c (0 : Fin 3) = m ((c : Thread nD τ).loc main_arg0) :=
  (dats (F := F) m ρ 0 c).arrAt_in (0 : Fin 3) rfl _

/-- The second argument ends as it was. -/
theorem final_w (c : Dev nD) : finalA m ρ c (1 : Fin 3) = m ((c : Thread nD τ).loc main_arg1) :=
  (dats (F := F) m ρ 0 c).arrAt_in (1 : Fin 3) rfl _

/-- A window whose one block is its array: the block's view of the first argument reads the array. -/
theorem read_x (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f

/-- The same of the second argument. -/
theorem read_w (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f

/-- The same of the result. -/
theorem read_o (f : (main_v1 : Ref sig .tc).ty.Contents (Elt F)) : (win0_2.blk (0 : Fin 1)).view.read (Elt F) f = f :=
  Memref.read_access_unit_zero (Elt F) main_v1 (funext fun a => by fin_cases a <;> decide) (fun a => by fin_cases a <;> decide) f

/-- The result array ends at what the body stored last: the one grid step writes the whole of it back. -/
theorem final_o (c : Dev nD) : finalA m ρ c (2 : Fin 3) = outv m ρ c := by
  have back := (dats m ρ 0 c).arrAt_succ (2 : Fin 3) (0 : Fin 1)
  rw [if_pos (by decide : (cfg0.win (2 : Fin 3)).flush (0 : Fin 1) = true)] at back
  exact (read_o _).symm.trans ((congrArg ((win0_2.blk (0 : Fin 1)).view.read (Elt F)) back).trans (View.read_write_univ _ _))

/-- The run, read at the three arrays: arguments as they were, the result as stored, every counter at zero. -/
theorem run_arrays : θ_run defs (onTc (τ := τ) (main (F := F))) ⟨m, fun _ => 0, ρ⟩ (fun r =>
    (∀ c : Dev nD, r.2.mem ((c : Thread nD τ).loc main_v1) = outv m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h =>
    ⟨fun c => ⟨(h.1 c (2 : Fin 3)).trans (final_o m ρ c), (h.1 c (0 : Fin 3)).trans (final_x m ρ c),
      (h.1 c (1 : Fin 3)).trans (final_w m ρ c)⟩, h.2⟩) (run_main m ρ)

/-- The staged first argument is the argument. -/
theorem xstg_eq (c : Dev nD) : xstg m ρ c = m ((c : Thread nD τ).loc main_arg0) := read_x _

/-- The staged second argument is the argument. -/
theorem wstg_eq (c : Dev nD) : wstg m ρ c = m ((c : Thread nD τ).loc main_arg1) := read_w _

end Cert.KernelIdeal.Ring

end
-- ==== Proof.Ref.lean ====
/-
  What the reference computes: one product of the two whole arrays on one device.
-/
module

public import proofs.«01_k».proof.Proof.Gen.ReferenceIdeal.Run

@[expose] public section

noncomputable section

namespace Cert.ReferenceIdeal.Run

open Cert.ReferenceIdeal Cert.ReferenceIdeal.Gen
open Idealize.ShloMosaic Idealize.ShloMosaic.TcCoe Idealize.SL.Sem

variable {F : FTy → Type} [FloatOps F]

/-- The product of the two whole arrays, rounded to bf16 and widened again. -/
def product (x : FVec F S8192x8192 .bf16) (w : FVec F S8192x4096 .bf16) : FVec F S8192x4096 .f32 :=
  extf .f32 (truncf .bf16 (Host.dotGeneral dot_S8192x8192_S8192x4096_S8192x4096_1_0_0_1_n_n none x w : FVec F S8192x4096 .f32)
    bitsLt_bf16_f32) bitsLt_bf16_f32

/-- From any memory the reference ends with its result buffer at the product and its arguments unchanged. -/
theorem run_ref (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v2) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  Cert.ReferenceIdeal.Value.run m ρ

end Cert.ReferenceIdeal.Run

end
-- ==== Proof.Sums.lean ====
/-
  The arithmetic of the ring: sixteen partial products, met by walking backwards around the ring, are the
  one product over the whole contracted axis.
-/
module

public import Idealize.ShloMosaic.Lib.StackMember
public import Idealize.ShloMosaic.Lib.MatmulPlain
public import Mathlib.Algebra.BigOperators.Fin
public import Mathlib.Logic.Equiv.Fin.Basic

@[expose] public section

noncomputable section

namespace Cert.Sums

open Idealize.ShloMosaic Idealize.ShloMosaic.ValueIdx
open scoped BigOperators

/-- Place `n` on a ring of sixteen. -/
def place (n : ℕ) : Fin 16 := ⟨n % 16, Nat.mod_lt _ (by decide)⟩

/-- A place is itself. -/
theorem place_val (c : Fin 16) : place c.val = c := Fin.ext (Nat.mod_eq_of_lt c.isLt)

/-- Two numbers with the same remainder are the same place. -/
theorem place_congr {a b : ℕ} (h : a % 16 = b % 16) : place a = place b := Fin.ext h

/-- Element `r` of block `b`, out of sixteen blocks of 512. -/
def at512 (b : Fin 16) (r : Fin 512) : Fin 8192 := ⟨b.val * 512 + r.val, by have := b.isLt; have := r.isLt; omega⟩

/-- Sixteen steps backwards, fifteen forwards each, meet every place once. -/
theorem sum_around {M : Type} [AddCommMonoid M] (n : ℕ) (f : Fin 16 → M) :
    ∑ t ∈ Finset.range 16, f (place (n + 15 * t)) = ∑ d : Fin 16, f d := by
  rw [Finset.sum_range]
  have hi : Function.Injective fun t : Fin 16 => place (n + 15 * t.val) := by
    intro a b h
    have h' : (n + 15 * a.val) % 16 = (n + 15 * b.val) % 16 := congrArg Fin.val h
    apply Fin.ext
    have := a.isLt; have := b.isLt
    omega
  exact (Finite.injective_iff_bijective.mp hi).sum_comp f

/-- A sum over sixteen blocks of 512 is the sum over all 8192. -/
theorem sum_blocks {M : Type} [AddCommMonoid M] (g : Fin 8192 → M) :
    ∑ d : Fin 16, ∑ k : Fin 512, g (at512 d k) = ∑ k : Fin 8192, g k := by
  rw [← Fintype.sum_prod_type']
  refine Fintype.sum_equiv (finProdFinEquiv : Fin 16 × Fin 512 ≃ Fin (16 * 512)) _ g fun x => ?_
  refine congrArg g (Fin.ext ?_)
  show x.1.val * 512 + x.2.val = x.2.val + 512 * x.1.val
  omega

/-- Device `d`'s share of element (512·b + i, l) of the product of the two whole arrays. -/
def part (X : FVec Ideal ⟨2, ![8192, 8192]⟩ .bf16) (W : FVec Ideal ⟨2, ![8192, 4096]⟩ .bf16)
    (b d : Fin 16) (i : Fin 512) (l : Fin 4096) : Ideal .f32 :=
  ∑ k : Fin 512, X (ix2 (at512 b i) (at512 d k)) * W (ix2 (at512 d k) l)

/-- The shares of all sixteen devices make the element of the product. -/
theorem sum_part (X : FVec Ideal ⟨2, ![8192, 8192]⟩ .bf16) (W : FVec Ideal ⟨2, ![8192, 4096]⟩ .bf16)
    (b : Fin 16) (i : Fin 512) (l : Fin 4096) :
    ∑ d : Fin 16, part X W b d i l = Host.dotGeneral (DotDims.plain 8192 8192 4096) none X W (ix2 (at512 b i) l) := by
  rw [StackMember.dotGeneral_plain_apply]
  exact sum_blocks fun k => X (ix2 (at512 b i) k) * W (ix2 k l)

end Cert.Sums

end
-- ==== Proof.Value.lean ====
/-
  The value of the ring over the extended reals: what every device sends at every step, and what it stores,
  as sums of shares of the product of the two whole arrays.
-/
module

public import proofs.«01_k».proof.Proof.KI.Result
public import proofs.«01_k».proof.Proof.Sums
public import proofs.«01_k».proof.Proof.Ref
public import Idealize.ShloMosaic.Lib.Layout
public import Idealize.ShloMosaic.Lib.Pipeline.Value

@[expose] public section

set_option maxRecDepth 10000

noncomputable section

namespace Cert.KernelIdeal.Ring

open Cert.KernelIdeal Cert.KernelIdeal.Gen Cert.Sums
open Idealize.ShloMosaic Idealize.ShloMosaic.TcCoe Idealize.ShloMosaic.ValueIdx
open scoped BigOperators

/-! ## The three payloads at an index -/

/-- One device's product of its rows and its weight block, at an index. -/
theorem rows_times_block (x : Vec Ideal S512x512 .bf16) (w : Vec Ideal S512x4096 .bf16) (i : Fin 512) (l : Fin 4096) :
    matmul (F := Ideal) (φ₁ := .bf16) (φ₂ := .bf16) dot_S512x512_S512x4096_S512x4096_1_0_0_1_n_n none (shapeCast S512x512 x shapeCasts_S512x512_S512x512 : FVec Ideal S512x512 .bf16)
        (shapeCast S512x4096 w shapeCasts_S512x4096_S512x4096 : FVec Ideal S512x4096 .bf16) (constant S512x4096 .f32 0x00000000#32) (ix2 i l)
      = ∑ k : Fin 512, x (ix2 i k) * w (ix2 k l) := by
  rw [shapeCast_self, shapeCast_self]
  simp only [matmul]
  refine (Ideal.matmul_plain_apply (M := 512) (K := 512) (N := 4096) none x w _ i l).trans ?_
  show Ideal.ofBits .f32 0x00000000#32 + _ = _
  rw [Ideal.ofBits_zero_f32, zero_add]

/-- A block with its leading axis of one dropped, at an index. -/
theorem dropped (r : Vec Ideal S1x512x4096 .bf16) (i : Fin 512) (l : Fin 4096) :
    shapeCast S512x4096 r shapeCasts_S1x512x4096_S512x4096 (ix2 i l) = r (ix3 (0 : Fin 1) i l) :=
  (shapeCast_dropUnit_apply (![512, 4096]) r shapeCasts_S1x512x4096_S512x4096 (ix2 i l)).trans
    (congrArg r (StackMember.cons_ix2 (0 : Fin 1) i l))

/-- A block with a leading axis of one added, at an index. -/
theorem added (v : Vec Ideal S512x4096 .bf16) (i : Fin 512) (l : Fin 4096) :
    shapeCast S1x512x4096 v shapeCasts_S512x4096_S1x512x4096 (ix3 (0 : Fin 1) i l) = v (ix2 i l) :=
  (shapeCast_addUnit_apply (![512, 4096]) v shapeCasts_S512x4096_S1x512x4096 (ix3 (0 : Fin 1) i l)).trans
    (congrArg v (by funext a; match a with | ⟨0, _⟩ => rfl | ⟨1, _⟩ => rfl))

/-- The first block sent, at an index: the device's own product. -/
theorem first_apply (x : Vec Ideal S512x512 .bf16) (w : Vec Ideal S512x4096 .bf16) (i : Fin 512) (l : Fin 4096) :
    k0_pay2 (F := Ideal) x w (ix3 (0 : Fin 1) i l) = ∑ k : Fin 512, x (ix2 i k) * w (ix2 k l) := by
  unfold k0_pay2
  exact (added _ i l).trans (rows_times_block x w i l)

/-- A later block sent, at an index: the device's own product and what it received. -/
theorem step_apply (x : Vec Ideal S512x512 .bf16) (w : Vec Ideal S512x4096 .bf16) (r : Vec Ideal S1x512x4096 .bf16)
    (i : Fin 512) (l : Fin 4096) :
    payStep (F := Ideal) x w r (ix3 (0 : Fin 1) i l)
      = (∑ k : Fin 512, x (ix2 i k) * w (ix2 k l)) + r (ix3 (0 : Fin 1) i l) := by
  unfold payStep k0_pay5
  refine (added _ i l).trans ?_
  exact congrArg₂ (fun a b : EReal => a + b) (rows_times_block x w i l) (dropped r i l)

/-- The stored block, at an index: the device's own product and what it received. -/
theorem last_apply (x : Vec Ideal S512x512 .bf16) (w : Vec Ideal S512x4096 .bf16) (r : Vec Ideal S1x512x4096 .bf16)
    (i : Fin 512) (l : Fin 4096) :
    k0_pay1 (F := Ideal) x w r (ix2 i l)
      = (∑ k : Fin 512, x (ix2 i k) * w (ix2 k l)) + r (ix3 (0 : Fin 1) i l) := by
  unfold k0_pay1
  exact congrArg₂ (fun a b : EReal => a + b) (rows_times_block x w i l) (dropped r i l)

/-! ## The loads at an index -/

section Loads
variable {F : FTy → Type} [FloatOps F]
variable (m : (ℓ : Loc nD τ sig) → Buf (Elt F) ℓ) (ρ : Dev nD → PrngReg)

/-- Row block `(c + r) mod 16` of the staged first argument, at an index. -/
theorem xrow_apply (c : Dev nD) (r : Fin 15) (i k : Fin 512) :
    xrow m ρ c r (ix2 i k) = xstg m ρ c (ix2 (at512 (place (c.val + r.val)) i) k) := by
  show xstg m ρ c _ = _
  refine congrArg (xstg m ρ c) (Shape.idx_ext₂ ?_ ?_)
  · show k0_off2 c (BitVec.ofNat 32 r.val) 0 + 1 * i.val = (c.val + r.val) % 16 * 512 + i.val
    rw [k0_off2_eq]
    show 512 * ((c.val + r.val) % 16) + 1 * i.val = _
    omega
  · show k0_off2 c (BitVec.ofNat 32 r.val) 1 + 1 * k.val = k.val
    rw [k0_off2_eq]
    show 0 + 1 * k.val = _
    omega

/-- Row block `(c + 15) mod 16` of the staged first argument, at an index. -/
theorem xrow1_apply (c : Dev nD) (i k : Fin 512) :
    xrow1 m ρ c (ix2 i k) = xstg m ρ c (ix2 (at512 (place (c.val + 15)) i) k) := by
  show xstg m ρ c _ = _
  refine congrArg (xstg m ρ c) (Shape.idx_ext₂ ?_ ?_)
  · show k0_off1 c 0 + 1 * i.val = (c.val + 15) % 16 * 512 + i.val
    rw [k0_off1_eq]
    show 512 * ((c.val + 15) % 16) + 1 * i.val = _
    omega
  · show k0_off1 c 1 + 1 * k.val = k.val
    rw [k0_off1_eq]
    show 0 + 1 * k.val = _
    omega

/-- The whole staged second argument, at an index. -/
theorem wblk_apply (c : Dev nD) (k : Fin 512) (l : Fin 4096) : wblk m ρ c (ix2 k l) = wstg m ρ c (ix2 k l) := by
  show wstg m ρ c _ = _
  refine congrArg (wstg m ρ c) (Shape.idx_ext₂ ?_ ?_)
  · show 0 + 1 * k.val = k.val; omega
  · show 0 + 1 * l.val = l.val; omega

end Loads

/-! ## The ring's sums -/

section Ideal
variable (m : (ℓ : Loc nD τ sig) → Buf (Elt Ideal) ℓ) (ρ : Dev nD → PrngReg)
variable (X : FVec Ideal ⟨2, ![8192, 8192]⟩ .bf16) (W : FVec Ideal ⟨2, ![8192, 4096]⟩ .bf16)

/-- The devices' arguments are the blocks of two whole arrays: `X` cut along its columns, `W` along its rows. -/
def Blocks : Prop := ∀ c : Dev nD,
  m ((c : Thread nD τ).loc main_arg0) = Layout.block ⟨2, ![8192, 512]⟩ ⟨2, ![8192, 8192]⟩ 1 16 c X
  ∧ m ((c : Thread nD τ).loc main_arg1) = Layout.block ⟨2, ![512, 4096]⟩ ⟨2, ![8192, 4096]⟩ 0 16 c W

variable {m} {X} {W} (hB : Blocks m X W)
include hB

/-- The staged first argument as a block of the whole array. -/
theorem xstg_block (c : Dev nD) (a : Fin 8192) (k : Fin 512) : xstg m ρ c (ix2 a k) = X (ix2 a (at512 c k)) := by
  rw [xstg_eq, (hB c).1]
  exact congrArg X (Shape.idx_ext₂ rfl rfl)

/-- The staged second argument as a block of the whole array. -/
theorem wstg_block (c : Dev nD) (k : Fin 512) (l : Fin 4096) : wstg m ρ c (ix2 k l) = W (ix2 (at512 c k) l) := by
  rw [wstg_eq, (hB c).2]
  exact congrArg W (Shape.idx_ext₂ rfl rfl)

/-- The product of one row block and the device's weight block is the device's share. -/
theorem share (c : Dev nD) (b : Fin 16) (x : Vec Ideal S512x512 .bf16)
    (hx : ∀ i k : Fin 512, x (ix2 i k) = xstg m ρ c (ix2 (at512 b i) k)) (i : Fin 512) (l : Fin 4096) :
    (∑ k : Fin 512, x (ix2 i k) * wblk m ρ c (ix2 k l) : EReal) = part X W b c i l :=
  Finset.sum_congr rfl fun k _ => by
    rw [hx, wblk_apply, xstg_block ρ hB, wstg_block ρ hB]

/-- What the device at place `n` sends at step `s`: the shares of the `s + 1` devices up to it of one row block. -/
theorem sent_apply (s : ℕ) (hs : s ≤ 14) (n : ℕ) (i : Fin 512) (l : Fin 4096) :
    sent m ρ s (place n) (ix3 (0 : Fin 1) i l)
      = ∑ t ∈ Finset.range (s + 1), part X W (place (n + 15 + 15 * s)) (place (n + 15 * t)) i l := by
  induction s generalizing n with
  | zero =>
    rw [Finset.sum_range_one]
    refine (first_apply _ _ i l).trans ((share ρ hB (place n) (place ((place n).val + 15)) _ (xrow1_apply m ρ _) i l).trans ?_)
    rw [place_congr (a := (place n).val + 15) (b := n + 15 + 15 * 0) (by show (n % 16 + 15) % 16 = _; omega)]
    rfl
  | succ s ih =>
    have hp : prv (place n) = place (n + 15) :=
      Fin.ext ((prv_val _).trans (by show (n % 16 + 15) % 16 = (n + 15) % 16; omega))
    have hrow : place ((place n).val + (rr s).val) = place (n + 15 + 15 * (s + 1)) :=
      place_congr (by show (n % 16 + (14 - s)) % 16 = _; omega)
    rw [Finset.sum_range_succ', add_comm (Finset.sum _ _)]
    refine (step_apply _ _ _ i l).trans (congrArg₂ (fun a b : EReal => a + b) ?_ ?_)
    · refine (share ρ hB (place n) (place ((place n).val + (rr s).val)) _ (xrow_apply m ρ _ _) i l).trans ?_
      rw [hrow]; rfl
    · rw [hp, ih (by omega) (n + 15)]
      refine Finset.sum_congr rfl fun t _ => ?_
      rw [show n + 15 + 15 + 15 * s = n + 15 + 15 * (s + 1) from by ring, show n + 15 + 15 * t = n + 15 * (t + 1) from by ring]

/-- What device `c` stores: the shares of all sixteen devices of row block `c`. -/
theorem outv_apply (c : Dev nD) (i : Fin 512) (l : Fin 4096) :
    outv m ρ c (ix2 i l) = ∑ d : Fin 16, part X W c d i l := by
  have hp : prv c = place (c.val + 15) := Fin.ext (prv_val c)
  rw [← sum_around c.val (fun d => part X W c d i l), Finset.sum_range_succ', add_comm (Finset.sum _ _)]
  refine (last_apply _ _ _ i l).trans (congrArg₂ (fun a b : EReal => a + b) ?_ ?_)
  · refine (share ρ hB c (place (c.val + (0 : Fin 15).val)) _ (xrow_apply m ρ _ _) i l).trans ?_
    show part X W (place c.val) c i l = part X W c (place c.val) i l
    rw [place_val]
  · rw [hp, sent_apply ρ hB 14 (le_refl _)]
    refine Finset.sum_congr rfl fun t _ => ?_
    rw [show place (c.val + 15 + 15 + 15 * 14) = c from
        (place_congr (b := c.val) (by omega)).trans (place_val c),
      show c.val + 15 + 15 * t = c.val + 15 * (t + 1) from by ring]

/-- What device `c` stores is row block `c` of the reference's product of the two whole arrays. -/
theorem outv_block (c : Dev nD) :
    outv m ρ c = Layout.block ⟨2, ![512, 4096]⟩ ⟨2, ![8192, 4096]⟩ 0 16 c (Cert.ReferenceIdeal.Run.product (F := Ideal) X W) := by
  funext j
  obtain ⟨i, l, rfl⟩ : ∃ (i : Fin 512) (l : Fin 4096), j = ix2 i l := ⟨j 0, j 1, eq_ix2 j⟩
  rw [outv_apply ρ hB, sum_part]
  show _ = Host.dotGeneral (DotDims.plain 8192 8192 4096) none X W _
  exact congrArg _ (Shape.idx_ext₂ rfl rfl)

end Ideal

end Cert.KernelIdeal.Ring

end
-- ==== Proof.lean ====
/-
  The five claims, put together: both programs run and leave every counter at zero, the reference runs, and each
  device's result is its block of the reference's product.
-/
module

public import proofs.«01_k».proof.Defs
public import proofs.«01_k».proof.Proof.K.Result
public import proofs.«01_k».proof.Proof.KI.Result
public import proofs.«01_k».proof.Proof.Ref
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel on bits runs, keeps its arguments, and ends with every counter at zero. -/
theorem frame_kernel : Cert.quiescent_Kernel := fun m g _ =>
  (θ_run Cert.Kernel.defs _ _).mono (fun _ h => ⟨fun c => (h.1 c).2, h.2⟩) (Cert.Kernel.Ring.run_arrays (F := Bits) m g)

/-- The same of the kernel over the extended reals. -/
theorem frame_ideal : Cert.quiescent_KernelIdeal := fun m g _ =>
  (θ_run Cert.KernelIdeal.defs _ _).mono (fun _ h => ⟨fun c => (h.1 c).2, h.2⟩) (Cert.KernelIdeal.Ring.run_arrays (F := Ideal) m g)

/-- The reference runs and keeps its arguments; it has no semaphore. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Run.run_ref (F := Ideal) m g)

/-- Each device's result is its block of the reference's product of the two whole arrays. -/
theorem value : Cert.algebraic_KernelIdeal_ReferenceIdeal := fun m g m' g' _ hB =>
  ⟨Cert.ReferenceIdeal.Run.product (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.KernelIdeal.Ring.outv_block g hB c), (h.1 c).2⟩)
      (Cert.KernelIdeal.Ring.run_arrays (F := Ideal) m g),
    (θ_run Cert.ReferenceIdeal.defs _ _).mono (fun _ h => h 0) (Cert.ReferenceIdeal.Run.run_ref (F := Ideal) m' g')⟩

/-- The five claims together. -/
theorem claim : Cert.Claim := ⟨Cert.Kernel.Gen.facts, Cert.KernelIdeal.Gen.facts, Cert.ReferenceIdeal.Gen.facts,
  frame_kernel, frame_ideal, frame_reference, trivial, value⟩

end Cert.Proof

end
